-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S512x2416 : Shape := ⟨2, ![512, 2416]⟩
abbrev S2x200x200 : Shape := ⟨3, ![2, 200, 200]⟩
abbrev S2x1x64 : Shape := ⟨3, ![2, 1, 64]⟩
abbrev S64 : Shape := ⟨1, ![64]⟩
abbrev S3x64x256 : Shape := ⟨3, ![3, 64, 256]⟩
abbrev S3x256 : Shape := ⟨2, ![3, 256]⟩
abbrev S64x512 : Shape := ⟨2, ![64, 512]⟩
abbrev S512 : Shape := ⟨1, ![512]⟩
abbrev S15x512 : Shape := ⟨2, ![15, 512]⟩
abbrev S1024 : Shape := ⟨1, ![1024]⟩
abbrev S1024x1 : Shape := ⟨2, ![1024, 1]⟩
abbrev S1 : Shape := ⟨1, ![1]⟩
abbrev S512x1 : Shape := ⟨2, ![512, 1]⟩
abbrev S512x2400 : Shape := ⟨2, ![512, 2400]⟩
abbrev S200x200 : Shape := ⟨2, ![200, 200]⟩
abbrev S_ : Shape := ⟨0, ![]⟩
abbrev S1x200x200 : Shape := ⟨3, ![1, 200, 200]⟩
abbrev S1x1x64 : Shape := ⟨3, ![1, 1, 64]⟩

class Facts : Prop where
  slices_S512x2416_S512x1_0_2415 : S512x2416.Slices ![0, 2415] S512x1
  slices_S512x2416_S512x2400_0_0 : S512x2416.Slices ![0, 0] S512x2400
  bcast_S_S200x200 : S_.BroadcastsInDim S200x200 (![] : Fin 0 → Fin S200x200.rank)
  bcast_S_S512x1 : S_.BroadcastsInDim S512x1 (![] : Fin 0 → Fin S512x1.rank)
  slices_S2x200x200_S1x200x200_0_0_0 : S2x200x200.Slices ![0, 0, 0] S1x200x200
  shapeCasts_S1x200x200_S200x200 : S1x200x200.ShapeCasts S200x200
  bcast_S_S512x2400 : S_.BroadcastsInDim S512x2400 (![] : Fin 0 → Fin S512x2400.rank)
  slices_S2x200x200_S1x200x200_1_0_0 : S2x200x200.Slices ![1, 0, 0] S1x200x200
  bcast_S_S1x200x200 : S_.BroadcastsInDim S1x200x200 (![] : Fin 0 → Fin S1x200x200.rank)
  slices_S2x1x64_S1x1x64_1_0_0 : S2x1x64.Slices ![1, 0, 0] S1x1x64
  bcast_S_S1x1x64 : S_.BroadcastsInDim S1x1x64 (![] : Fin 0 → Fin S1x1x64.rank)

variable [Facts]

def fn_part1 {F : FTy → Type} [FloatOps F] (main_arg1 : FVec F S2x200x200 .f32) (main_arg2 : FVec F S2x1x64 .f32) (main_v12 : IVec S512x1 1) (main_v15 : IVec S200x200 1) (main_v18 : IVec S512x2400 1) : IVec S512x1 1 × IVec S200x200 1 × IVec S512x2400 1 × IVec S1x200x200 1 × IVec S1x1x64 1 :=
  let main_v19 : FVec F S1x200x200 .f32 := (extractStridedSlice S1x200x200 ![1, 0, 0] · slices_S2x200x200_S1x200x200_1_0_0) main_arg1
  let main_v20 : FVec F S1x200x200 .f32 := Host.absf main_v19
  let main_cst_4 : FVec F S_ .f32 := constant S_ .f32 0x7F800000#32
  let main_v21 : FVec F S1x200x200 .f32 := broadcastInDim S1x200x200 ![] bcast_S_S1x200x200 main_cst_4
  let main_v22 : IVec S1x200x200 1 := cmpf .olt main_v20 main_v21
  let main_v23 : FVec F S1x1x64 .f32 := (extractStridedSlice S1x1x64 ![1, 0, 0] · slices_S2x1x64_S1x1x64_1_0_0) main_arg2
  let main_v24 : FVec F S1x1x64 .f32 := Host.absf main_v23
  let main_cst_5 : FVec F S_ .f32 := constant S_ .f32 0x7F800000#32
  let main_v25 : FVec F S1x1x64 .f32 := broadcastInDim S1x1x64 ![] bcast_S_S1x1x64 main_cst_5
  let main_v26 : IVec S1x1x64 1 := cmpf .olt main_v24 main_v25
  (main_v12, main_v15, main_v18, main_v22, main_v26)

def fn {F : FTy → Type} [FloatOps F] (main_arg0 : FVec F S512x2416 .f32) (main_arg1 : FVec F S2x200x200 .f32) (main_arg2 : FVec F S2x1x64 .f32) (main_arg3 : FVec F S64 .f32) (main_arg4 : FVec F S3x64x256 .f32) (main_arg5 : FVec F S3x64x256 .f32) (main_arg6 : FVec F S3x256 .f32) (main_arg7 : FVec F S64x512 .f32) (main_arg8 : FVec F S512 .f32) (main_arg9 : FVec F S15x512 .f32) (main_arg10 : FVec F S512 .f32) (main_arg11 : FVec F S512 .f32) (main_arg12 : FVec F S512 .f32) (main_arg13 : FVec F S1024 .f32) (main_arg14 : FVec F S1024 .f32) (main_arg15 : FVec F S1024x1 .f32) (main_arg16 : FVec F S1 .f32) : IVec S512x1 1 × IVec S200x200 1 × IVec S512x2400 1 × IVec S1x200x200 1 × IVec S1x1x64 1 :=
  let main_v0 : FVec F S512x1 .f32 := (extractStridedSlice S512x1 ![0, 2415] · slices_S512x2416_S512x1_0_2415) main_arg0
  let main_v1 : FVec F S512x2400 .f32 := (extractStridedSlice S512x2400 ![0, 0] · slices_S512x2416_S512x2400_0_0) main_arg0
  let main_v2 : IVec S200x200 32 := iotaInDim S200x200 32 0
  let main_v3 : IVec S200x200 32 := iotaInDim S200x200 32 1
  let main_v4 : IVec S200x200 1 := cmpi .eq main_v2 main_v3
  let main_cst : FVec F S_ .f32 := constant S_ .f32 0x3F800000#32
  let main_v5 : FVec F S200x200 .f32 := broadcastInDim S200x200 ![] bcast_S_S200x200 main_cst
  let main_cst_0 : FVec F S_ .f32 := constant S_ .f32 0x00000000#32
  let main_v6 : FVec F S200x200 .f32 := broadcastInDim S200x200 ![] bcast_S_S200x200 main_cst_0
  let main_v7 : FVec F S200x200 .f32 := select main_v4 main_v5 main_v6
  let main_cst_1 : FVec F S_ .f32 := constant S_ .f32 0x00000000#32
  let main_v8 : FVec F S512x1 .f32 := broadcastInDim S512x1 ![] bcast_S_S512x1 main_cst_1
  let main_v9 : IVec S512x1 1 := cmpf .oge main_v0 main_v8
  let main_cst_2 : FVec F S_ .f32 := constant S_ .f32 0x43480000#32
  let main_v10 : FVec F S512x1 .f32 := broadcastInDim S512x1 ![] bcast_S_S512x1 main_cst_2
  let main_v11 : IVec S512x1 1 := cmpf .olt main_v0 main_v10
  let main_v12 : IVec S512x1 1 := andi main_v9 main_v11
  let main_v13 : FVec F S1x200x200 .f32 := (extractStridedSlice S1x200x200 ![0, 0, 0] · slices_S2x200x200_S1x200x200_0_0_0) main_arg1
  let main_v14 : FVec F S200x200 .f32 := shapeCast S200x200 main_v13 shapeCasts_S1x200x200_S200x200
  let main_v15 : IVec S200x200 1 := cmpf .oeq main_v14 main_v7
  let main_v16 : FVec F S512x2400 .f32 := Host.absf main_v1
  let main_cst_3 : FVec F S_ .f32 := constant S_ .f32 0x7F800000#32
  let main_v17 : FVec F S512x2400 .f32 := broadcastInDim S512x2400 ![] bcast_S_S512x2400 main_cst_3
  let main_v18 : IVec S512x2400 1 := cmpf .olt main_v16 main_v17
  fn_part1 (F := F) main_arg1 main_arg2 main_v12 main_v15 main_v18
-- ==== Kernel.lean ====
abbrev S512x2416 : Shape := ⟨2, ![512, 2416]⟩
abbrev S2x200x200 : Shape := ⟨3, ![2, 200, 200]⟩
abbrev S2x1x64 : Shape := ⟨3, ![2, 1, 64]⟩
abbrev S64 : Shape := ⟨1, ![64]⟩
abbrev S3x64x256 : Shape := ⟨3, ![3, 64, 256]⟩
abbrev S3x256 : Shape := ⟨2, ![3, 256]⟩
abbrev S64x512 : Shape := ⟨2, ![64, 512]⟩
abbrev S512 : Shape := ⟨1, ![512]⟩
abbrev S15x512 : Shape := ⟨2, ![15, 512]⟩
abbrev S1024 : Shape := ⟨1, ![1024]⟩
abbrev S1024x1 : Shape := ⟨2, ![1024, 1]⟩
abbrev S1 : Shape := ⟨1, ![1]⟩
abbrev S512x2400 : Shape := ⟨2, ![512, 2400]⟩
abbrev S512x12x200 : Shape := ⟨3, ![512, 12, 200]⟩
abbrev S12x512x200 : Shape := ⟨3, ![12, 512, 200]⟩
abbrev S512x16 : Shape := ⟨2, ![512, 16]⟩
abbrev S1x200x200 : Shape := ⟨3, ![1, 200, 200]⟩
abbrev S200x200 : Shape := ⟨2, ![200, 200]⟩
abbrev S1x64 : Shape := ⟨2, ![1, 64]⟩
abbrev S1x512 : Shape := ⟨2, ![1, 512]⟩
abbrev S1x1024 : Shape := ⟨2, ![1, 1024]⟩
abbrev S1x1 : Shape := ⟨2, ![1, 1]⟩
abbrev S512x1 : Shape := ⟨2, ![512, 1]⟩
abbrev S6144x64 : Shape := ⟨2, ![6144, 64]⟩
abbrev S512x200 : Shape := ⟨2, ![512, 200]⟩
abbrev S1x1x64 : Shape := ⟨3, ![1, 1, 64]⟩
abbrev S200x64 : Shape := ⟨2, ![200, 64]⟩
abbrev S1x512x200 : Shape := ⟨3, ![1, 512, 200]⟩
abbrev S512x64 : Shape := ⟨2, ![512, 64]⟩
abbrev S1x256 : Shape := ⟨2, ![1, 256]⟩
abbrev S1x64x256 : Shape := ⟨3, ![1, 64, 256]⟩
abbrev S64x256 : Shape := ⟨2, ![64, 256]⟩
abbrev S128x256 : Shape := ⟨2, ![128, 256]⟩
abbrev S256x64 : Shape := ⟨2, ![256, 64]⟩
abbrev S256x128 : Shape := ⟨2, ![256, 128]⟩
abbrev S256x256 : Shape := ⟨2, ![256, 256]⟩
abbrev S256x512 : Shape := ⟨2, ![256, 512]⟩
abbrev S512x512 : Shape := ⟨2, ![512, 512]⟩
abbrev S512x15 : Shape := ⟨2, ![512, 15]⟩

abbrev nBuf : Space → Nat
  | .hbm => 33
  | .vmem => 20
  | .smem => 0
  | _ => 0

abbrev bufTy : (tb : Table) → Fin (tcTables nBuf tb) → BufTy
  | .hbm, ⟨0, _⟩ => ⟨S512x2416, .f32⟩
  | .hbm, ⟨1, _⟩ => ⟨S2x200x200, .f32⟩
  | .hbm, ⟨2, _⟩ => ⟨S2x1x64, .f32⟩
  | .hbm, ⟨3, _⟩ => ⟨S64, .f32⟩
  | .hbm, ⟨4, _⟩ => ⟨S3x64x256, .f32⟩
  | .hbm, ⟨5, _⟩ => ⟨S3x64x256, .f32⟩
  | .hbm, ⟨6, _⟩ => ⟨S3x256, .f32⟩
  | .hbm, ⟨7, _⟩ => ⟨S64x512, .f32⟩
  | .hbm, ⟨8, _⟩ => ⟨S512, .f32⟩
  | .hbm, ⟨9, _⟩ => ⟨S15x512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S1024, .f32⟩
  | .hbm, ⟨14, _⟩ => ⟨S1024, .f32⟩
  | .hbm, ⟨15, _⟩ => ⟨S1024x1, .f32⟩
  | .hbm, ⟨16, _⟩ => ⟨S1, .f32⟩
  | .hbm, ⟨17, _⟩ => ⟨S512x2400, .f32⟩
  | .hbm, ⟨18, _⟩ => ⟨S512x12x200, .f32⟩
  | .hbm, ⟨19, _⟩ => ⟨S12x512x200, .f32⟩
  | .hbm, ⟨20, _⟩ => ⟨S512x16, .f32⟩
  | .hbm, ⟨21, _⟩ => ⟨S1x200x200, .f32⟩
  | .hbm, ⟨22, _⟩ => ⟨S200x200, .f32⟩
  | .hbm, ⟨23, _⟩ => ⟨S1x64, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1, .f32⟩
  | .hbm, ⟨32, _⟩ => ⟨S512x1, .f32⟩
  | .local _ .vmem, ⟨0, _⟩ => ⟨S12x512x200, .f32⟩
  | .local _ .vmem, ⟨1, _⟩ => ⟨S512x16, .f32⟩
  | .local _ .vmem, ⟨2, _⟩ => ⟨S200x200, .f32⟩
  | .local _ .vmem, ⟨3, _⟩ => ⟨S2x1x64, .f32⟩
  | .local _ .vmem, ⟨4, _⟩ => ⟨S1x64, .f32⟩
  | .local _ .vmem, ⟨5, _⟩ => ⟨S3x64x256, .f32⟩
  | .local _ .vmem, ⟨6, _⟩ => ⟨S3x64x256, .f32⟩
  | .local _ .vmem, ⟨7, _⟩ => ⟨S3x256, .f32⟩
  | .local _ .vmem, ⟨8, _⟩ => ⟨S64x512, .f32⟩
  | .local _ .vmem, ⟨9, _⟩ => ⟨S1x512, .f32⟩
  | .local _ .vmem, ⟨10, _⟩ => ⟨S15x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1, .f32⟩
  | .local _ .vmem, ⟨18, _⟩ => ⟨S512x1, .f32⟩
  | .local _ .vmem, ⟨19, _⟩ => ⟨S6144x64, .f32⟩
  | _, _ => ⟨S512x2416, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_scratch0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S12x512x200 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S200x200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S15x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S512x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== ReferenceIdeal.lean ====
abbrev S512x2416 : Shape := ⟨2, ![512, 2416]⟩
abbrev S2x200x200 : Shape := ⟨3, ![2, 200, 200]⟩
abbrev S2x1x64 : Shape := ⟨3, ![2, 1, 64]⟩
abbrev S64 : Shape := ⟨1, ![64]⟩
abbrev S3x64x256 : Shape := ⟨3, ![3, 64, 256]⟩
abbrev S3x256 : Shape := ⟨2, ![3, 256]⟩
abbrev S64x512 : Shape := ⟨2, ![64, 512]⟩
abbrev S512 : Shape := ⟨1, ![512]⟩
abbrev S15x512 : Shape := ⟨2, ![15, 512]⟩
abbrev S1024 : Shape := ⟨1, ![1024]⟩
abbrev S1024x1 : Shape := ⟨2, ![1024, 1]⟩
abbrev S1 : Shape := ⟨1, ![1]⟩
abbrev S512x2400 : Shape := ⟨2, ![512, 2400]⟩
abbrev S512x12x200x1 : Shape := ⟨4, ![512, 12, 200, 1]⟩
abbrev S512x12x1x2x200 : Shape := ⟨5, ![512, 12, 1, 2, 200]⟩
abbrev S512x12x200x64 : Shape := ⟨4, ![512, 12, 200, 64]⟩
abbrev S1x1x1x64 : Shape := ⟨4, ![1, 1, 1, 64]⟩
abbrev S_ : Shape := ⟨0, ![]⟩
abbrev S12x512x200x64 : Shape := ⟨4, ![12, 512, 200, 64]⟩
abbrev S12x102400x64 : Shape := ⟨3, ![12, 102400, 64]⟩
abbrev S102400x64 : Shape := ⟨2, ![102400, 64]⟩
abbrev S1x102400x64 : Shape := ⟨3, ![1, 102400, 64]⟩
abbrev S1x64x256 : Shape := ⟨3, ![1, 64, 256]⟩
abbrev S64x256 : Shape := ⟨2, ![64, 256]⟩
abbrev S102400x256 : Shape := ⟨2, ![102400, 256]⟩
abbrev S1x256 : Shape := ⟨2, ![1, 256]⟩
abbrev S256 : Shape := ⟨1, ![256]⟩
abbrev S512x200x64 : Shape := ⟨3, ![512, 200, 64]⟩
abbrev S512x200x512 : Shape := ⟨3, ![512, 200, 512]⟩
abbrev S1x1x512 : Shape := ⟨3, ![1, 1, 512]⟩
abbrev S512x16 : Shape := ⟨2, ![512, 16]⟩
abbrev S512x1 : Shape := ⟨2, ![512, 1]⟩
abbrev S512x15 : Shape := ⟨2, ![512, 15]⟩
abbrev S512x1x1 : Shape := ⟨3, ![512, 1, 1]⟩
abbrev S1x1x1 : Shape := ⟨3, ![1, 1, 1]⟩
abbrev S512x1x512 : Shape := ⟨3, ![512, 1, 512]⟩
abbrev S512x512 : Shape := ⟨2, ![512, 512]⟩
abbrev S1x512 : Shape := ⟨2, ![1, 512]⟩
abbrev S512x1024 : Shape := ⟨2, ![512, 1024]⟩
abbrev S1x1024 : Shape := ⟨2, ![1, 1024]⟩
abbrev S1x1 : Shape := ⟨2, ![1, 1]⟩

abbrev nBuf : Space → Nat
  | .hbm => 314
  | .vmem => 0
  | .smem => 0
  | _ => 0

abbrev hbmTy0_0 (i : Nat) : BufTy := match i % 128 with
  | 0 => ⟨S512x2416, .f32⟩
  | 1 => ⟨S2x200x200, .f32⟩
  | 2 => ⟨S2x1x64, .f32⟩
  | 3 => ⟨S64, .f32⟩
  | 4 => ⟨S3x64x256, .f32⟩
  | 5 => ⟨S3x64x256, .f32⟩
  | 6 => ⟨S3x256, .f32⟩
  | 7 => ⟨S64x512, .f32⟩
  | 8 => ⟨S512, .f32⟩
  | 9 => ⟨S15x512, .f32⟩
  | 10 => ⟨S512, .f32⟩
  | 11 => ⟨S512, .f32⟩
  | 12 => ⟨S512, .f32⟩
  | 13 => ⟨S1024, .f32⟩
  | 14 => ⟨S1024, .f32⟩
  | 15 => ⟨S1024x1, .f32⟩
  | 16 => ⟨S1, .f32⟩
  | 17 => ⟨S512x2400, .f32⟩
  | 18 => ⟨S512x12x200x1, .f32⟩
  | 19 => ⟨S512x12x1x2x200, .f32⟩
  | 20 => ⟨S512x12x200x64, .f32⟩
  | 21 => ⟨S1x1x1x64, .f32⟩
  | 22 => ⟨S512x12x200x64, .f32⟩
  | 23 => ⟨S512x12x200x64, .f32⟩
  | 24 => ⟨S_, .f32⟩
  | 25 => ⟨S512x12x200x64, .f32⟩
  | 26 => ⟨S512x12x200x64, .f32⟩
  | 27 => ⟨S12x512x200x64, .f32⟩
  | 28 => ⟨S12x102400x64, .f32⟩
  | 29 => ⟨S_, .f32⟩
  | 30 => ⟨S102400x64, .f32⟩
  | 31 => ⟨S_, .i32⟩
  | 32 => ⟨S12x102400x64, .f32⟩
  | 33 => ⟨S3x64x256, .f32⟩
  | 34 => ⟨S3x64x256, .f32⟩
  | 35 => ⟨S3x256, .f32⟩
  | 36 => ⟨S_, .i32⟩
  | 37 => ⟨S102400x64, .f32⟩
  | 38 => ⟨S102400x64, .f32⟩
  | 39 => ⟨S102400x64, .f32⟩
  | 40 => ⟨S102400x64, .f32⟩
  | 41 => ⟨S102400x64, .f32⟩
  | 42 => ⟨S102400x64, .f32⟩
  | 43 => ⟨S_, .i32⟩
  | 44 => ⟨S_, .i1⟩
  | 45 => ⟨S_, .i32⟩
  | 46 => ⟨S_, .i32⟩
  | 47 => ⟨S1x102400x64, .f32⟩
  | 48 => ⟨S102400x64, .f32⟩
  | 49 => ⟨S1x64x256, .f32⟩
  | 50 => ⟨S64x256, .f32⟩
  | 51 => ⟨S102400x256, .f32⟩
  | 52 => ⟨S1x64x256, .f32⟩
  | 53 => ⟨S64x256, .f32⟩
  | 54 => ⟨S102400x256, .f32⟩
  | 55 => ⟨S102400x256, .f32⟩
  | 56 => ⟨S1x256, .f32⟩
  | 57 => ⟨S256, .f32⟩
  | 58 => ⟨S1x256, .f32⟩
  | 59 => ⟨S102400x256, .f32⟩
  | 60 => ⟨S102400x256, .f32⟩
  | 61 => ⟨S102400x64, .f32⟩
  | 62 => ⟨S102400x64, .f32⟩
  | 63 => ⟨S102400x64, .f32⟩
  | 64 => ⟨S102400x64, .f32⟩
  | 65 => ⟨S102400x64, .f32⟩
  | 66 => ⟨S102400x64, .f32⟩
  | 67 => ⟨S_, .f32⟩
  | 68 => ⟨S102400x64, .f32⟩
  | 69 => ⟨S102400x64, .f32⟩
  | 70 => ⟨S_, .f32⟩
  | 71 => ⟨S102400x64, .f32⟩
  | 72 => ⟨S102400x64, .f32⟩
  | 73 => ⟨S102400x64, .f32⟩
  | 74 => ⟨S102400x64, .f32⟩
  | 75 => ⟨S102400x64, .f32⟩
  | 76 => ⟨S_, .f32⟩
  | 77 => ⟨S102400x64, .f32⟩
  | 78 => ⟨S102400x64, .f32⟩
  | 79 => ⟨S_, .f32⟩
  | 80 => ⟨S102400x64, .f32⟩
  | 81 => ⟨S102400x64, .f32⟩
  | 82 => ⟨S102400x64, .f32⟩
  | 83 => ⟨S102400x64, .f32⟩
  | 84 => ⟨S102400x64, .f32⟩
  | 85 => ⟨S102400x64, .f32⟩
  | 86 => ⟨S102400x64, .f32⟩
  | 87 => ⟨S_, .f32⟩
  | 88 => ⟨S102400x64, .f32⟩
  | 89 => ⟨S102400x64, .f32⟩
  | 90 => ⟨S_, .f32⟩
  | 91 => ⟨S102400x64, .f32⟩
  | 92 => ⟨S102400x64, .f32⟩
  | 93 => ⟨S102400x64, .f32⟩
  | 94 => ⟨S102400x64, .f32⟩
  | 95 => ⟨S1x64x256, .f32⟩
  | 96 => ⟨S64x256, .f32⟩
  | 97 => ⟨S102400x256, .f32⟩
  | 98 => ⟨S1x64x256, .f32⟩
  | 99 => ⟨S64x256, .f32⟩
  | 100 => ⟨S102400x256, .f32⟩
  | 101 => ⟨S102400x256, .f32⟩
  | 102 => ⟨S1x256, .f32⟩
  | 103 => ⟨S256, .f32⟩
  | 104 => ⟨S1x256, .f32⟩
  | 105 => ⟨S102400x256, .f32⟩
  | 106 => ⟨S102400x256, .f32⟩
  | 107 => ⟨S102400x64, .f32⟩
  | 108 => ⟨S102400x64, .f32⟩
  | 109 => ⟨S102400x64, .f32⟩
  | 110 => ⟨S102400x64, .f32⟩
  | 111 => ⟨S102400x64, .f32⟩
  | 112 => ⟨S102400x64, .f32⟩
  | 113 => ⟨S_, .f32⟩
  | 114 => ⟨S102400x64, .f32⟩
  | 115 => ⟨S102400x64, .f32⟩
  | 116 => ⟨S_, .f32⟩
  | 117 => ⟨S102400x64, .f32⟩
  | 118 => ⟨S102400x64, .f32⟩
  | 119 => ⟨S102400x64, .f32⟩
  | 120 => ⟨S102400x64, .f32⟩
  | 121 => ⟨S102400x64, .f32⟩
  | 122 => ⟨S_, .f32⟩
  | 123 => ⟨S102400x64, .f32⟩
  | 124 => ⟨S102400x64, .f32⟩
  | 125 => ⟨S_, .f32⟩
  | 126 => ⟨S102400x64, .f32⟩
  | 127 => ⟨S102400x64, .f32⟩
  | _ => ⟨S512x2416, .f32⟩

abbrev hbmTy0_1 (i : Nat) : BufTy := match i % 128 with
  | 0 => ⟨S102400x64, .f32⟩
  | 1 => ⟨S102400x64, .f32⟩
  | 2 => ⟨S102400x64, .f32⟩
  | 3 => ⟨S102400x64, .f32⟩
  | 4 => ⟨S102400x64, .f32⟩
  | 5 => ⟨S_, .f32⟩
  | 6 => ⟨S102400x64, .f32⟩
  | 7 => ⟨S102400x64, .f32⟩
  | 8 => ⟨S_, .f32⟩
  | 9 => ⟨S102400x64, .f32⟩
  | 10 => ⟨S102400x64, .f32⟩
  | 11 => ⟨S102400x64, .f32⟩
  | 12 => ⟨S102400x64, .f32⟩
  | 13 => ⟨S1x64x256, .f32⟩
  | 14 => ⟨S64x256, .f32⟩
  | 15 => ⟨S102400x256, .f32⟩
  | 16 => ⟨S1x64x256, .f32⟩
  | 17 => ⟨S64x256, .f32⟩
  | 18 => ⟨S102400x256, .f32⟩
  | 19 => ⟨S102400x256, .f32⟩
  | 20 => ⟨S1x256, .f32⟩
  | 21 => ⟨S256, .f32⟩
  | 22 => ⟨S1x256, .f32⟩
  | 23 => ⟨S102400x256, .f32⟩
  | 24 => ⟨S102400x256, .f32⟩
  | 25 => ⟨S102400x64, .f32⟩
  | 26 => ⟨S102400x64, .f32⟩
  | 27 => ⟨S102400x64, .f32⟩
  | 28 => ⟨S102400x64, .f32⟩
  | 29 => ⟨S102400x64, .f32⟩
  | 30 => ⟨S102400x64, .f32⟩
  | 31 => ⟨S_, .f32⟩
  | 32 => ⟨S102400x64, .f32⟩
  | 33 => ⟨S102400x64, .f32⟩
  | 34 => ⟨S_, .f32⟩
  | 35 => ⟨S102400x64, .f32⟩
  | 36 => ⟨S102400x64, .f32⟩
  | 37 => ⟨S102400x64, .f32⟩
  | 38 => ⟨S102400x64, .f32⟩
  | 39 => ⟨S102400x64, .f32⟩
  | 40 => ⟨S_, .f32⟩
  | 41 => ⟨S102400x64, .f32⟩
  | 42 => ⟨S102400x64, .f32⟩
  | 43 => ⟨S_, .f32⟩
  | 44 => ⟨S102400x64, .f32⟩
  | 45 => ⟨S102400x64, .f32⟩
  | 46 => ⟨S102400x64, .f32⟩
  | 47 => ⟨S102400x64, .f32⟩
  | 48 => ⟨S102400x64, .f32⟩
  | 49 => ⟨S102400x64, .f32⟩
  | 50 => ⟨S102400x64, .f32⟩
  | 51 => ⟨S_, .f32⟩
  | 52 => ⟨S102400x64, .f32⟩
  | 53 => ⟨S102400x64, .f32⟩
  | 54 => ⟨S_, .f32⟩
  | 55 => ⟨S102400x64, .f32⟩
  | 56 => ⟨S102400x64, .f32⟩
  | 57 => ⟨S102400x64, .f32⟩
  | 58 => ⟨S102400x64, .f32⟩
  | 59 => ⟨S_, .i32⟩
  | 60 => ⟨S_, .i32⟩
  | 61 => ⟨S512x200x64, .f32⟩
  | 62 => ⟨S512x200x512, .f32⟩
  | 63 => ⟨S1x1x512, .f32⟩
  | 64 => ⟨S512x200x512, .f32⟩
  | 65 => ⟨S512x200x512, .f32⟩
  | 66 => ⟨S512x16, .f32⟩
  | 67 => ⟨S512x1, .f32⟩
  | 68 => ⟨S512, .f32⟩
  | 69 => ⟨S512, .i32⟩
  | 70 => ⟨S512x15, .f32⟩
  | 71 => ⟨S512x1x1, .i32⟩
  | 72 => ⟨S_, .i32⟩
  | 73 => ⟨S512x1x1, .i32⟩
  | 74 => ⟨S512x1x1, .i1⟩
  | 75 => ⟨S_, .i32⟩
  | 76 => ⟨S512x1x1, .i32⟩
  | 77 => ⟨S512x1x1, .i32⟩
  | 78 => ⟨S512x1x1, .i32⟩
  | 79 => ⟨S1, .i32⟩
  | 80 => ⟨S_, .i32⟩
  | 81 => ⟨S512x1x1, .i32⟩
  | 82 => ⟨S512x1x1, .i1⟩
  | 83 => ⟨S1x1x1, .i32⟩
  | 84 => ⟨S512x1x1, .i32⟩
  | 85 => ⟨S512x1x1, .i1⟩
  | 86 => ⟨S512x1x1, .i1⟩
  | 87 => ⟨S_, .i1⟩
  | 88 => ⟨S512x1, .i1⟩
  | 89 => ⟨S512x1x512, .f32⟩
  | 90 => ⟨S512x1x512, .i1⟩
  | 91 => ⟨S_, .f32⟩
  | 92 => ⟨S512x1x512, .f32⟩
  | 93 => ⟨S512x1x512, .f32⟩
  | 94 => ⟨S512x512, .f32⟩
  | 95 => ⟨S512x512, .f32⟩
  | 96 => ⟨S1x512, .f32⟩
  | 97 => ⟨S512x512, .f32⟩
  | 98 => ⟨S512x512, .f32⟩
  | 99 => ⟨S_, .f32⟩
  | 100 => ⟨S512, .f32⟩
  | 101 => ⟨S_, .f32⟩
  | 102 => ⟨S512, .f32⟩
  | 103 => ⟨S512, .f32⟩
  | 104 => ⟨S1x512, .f32⟩
  | 105 => ⟨S512x512, .f32⟩
  | 106 => ⟨S512x512, .f32⟩
  | 107 => ⟨S1x512, .f32⟩
  | 108 => ⟨S512x512, .f32⟩
  | 109 => ⟨S512x512, .f32⟩
  | 110 => ⟨S512x512, .f32⟩
  | 111 => ⟨S_, .f32⟩
  | 112 => ⟨S512, .f32⟩
  | 113 => ⟨S_, .f32⟩
  | 114 => ⟨S512, .f32⟩
  | 115 => ⟨S512, .f32⟩
  | 116 => ⟨S1x512, .f32⟩
  | 117 => ⟨S512x512, .f32⟩
  | 118 => ⟨S512x512, .f32⟩
  | 119 => ⟨S1x512, .f32⟩
  | 120 => ⟨S512x512, .f32⟩
  | 121 => ⟨S512x512, .f32⟩
  | 122 => ⟨S_, .f32⟩
  | 123 => ⟨S512, .f32⟩
  | 124 => ⟨S512, .f32⟩
  | 125 => ⟨S512, .f32⟩
  | 126 => ⟨S1x512, .f32⟩
  | 127 => ⟨S512x512, .f32⟩
  | _ => ⟨S512x2416, .f32⟩

abbrev hbmTy0_2 (i : Nat) : BufTy := match i % 128 with
  | 0 => ⟨S512x512, .f32⟩
  | 1 => ⟨S1x512, .f32⟩
  | 2 => ⟨S512x512, .f32⟩
  | 3 => ⟨S512x512, .f32⟩
  | 4 => ⟨S_, .f32⟩
  | 5 => ⟨S_, .f32⟩
  | 6 => ⟨S512x512, .f32⟩
  | 7 => ⟨S512x512, .i1⟩
  | 8 => ⟨S_, .f32⟩
  | 9 => ⟨S512x512, .f32⟩
  | 10 => ⟨S512x512, .f32⟩
  | 11 => ⟨S512x512, .f32⟩
  | 12 => ⟨S512x1024, .f32⟩
  | 13 => ⟨S_, .f32⟩
  | 14 => ⟨S1024, .f32⟩
  | 15 => ⟨S_, .f32⟩
  | 16 => ⟨S1024, .f32⟩
  | 17 => ⟨S1024, .f32⟩
  | 18 => ⟨S1x1024, .f32⟩
  | 19 => ⟨S512x1024, .f32⟩
  | 20 => ⟨S512x1024, .f32⟩
  | 21 => ⟨S1x1024, .f32⟩
  | 22 => ⟨S512x1024, .f32⟩
  | 23 => ⟨S512x1024, .f32⟩
  | 24 => ⟨S512x1024, .f32⟩
  | 25 => ⟨S_, .f32⟩
  | 26 => ⟨S1024, .f32⟩
  | 27 => ⟨S_, .f32⟩
  | 28 => ⟨S1024, .f32⟩
  | 29 => ⟨S1024, .f32⟩
  | 30 => ⟨S1x1024, .f32⟩
  | 31 => ⟨S512x1024, .f32⟩
  | 32 => ⟨S512x1024, .f32⟩
  | 33 => ⟨S1x1024, .f32⟩
  | 34 => ⟨S512x1024, .f32⟩
  | 35 => ⟨S512x1024, .f32⟩
  | 36 => ⟨S_, .f32⟩
  | 37 => ⟨S1024, .f32⟩
  | 38 => ⟨S1024, .f32⟩
  | 39 => ⟨S1024, .f32⟩
  | 40 => ⟨S1x1024, .f32⟩
  | 41 => ⟨S512x1024, .f32⟩
  | 42 => ⟨S512x1024, .f32⟩
  | 43 => ⟨S1x1024, .f32⟩
  | 44 => ⟨S512x1024, .f32⟩
  | 45 => ⟨S512x1024, .f32⟩
  | 46 => ⟨S512x1, .f32⟩
  | 47 => ⟨S1x1, .f32⟩
  | 48 => ⟨S512x1, .f32⟩
  | 49 => ⟨S512x1, .f32⟩
  | 50 => ⟨S512x1, .f32⟩
  | 51 => ⟨S512x1, .f32⟩
  | 52 => ⟨S_, .f32⟩
  | 53 => ⟨S512x1, .f32⟩
  | 54 => ⟨S512x1, .f32⟩
  | 55 => ⟨S_, .f32⟩
  | 56 => ⟨S512x1, .f32⟩
  | 57 => ⟨S512x1, .f32⟩
  | _ => ⟨S512x2416, .f32⟩

abbrev hbmTy (i : Nat) : BufTy := match i / 128 with
  | 0 => hbmTy0_0 i
  | 1 => hbmTy0_1 i
  | 2 => hbmTy0_2 i
  | _ => ⟨S512x2416, .f32⟩

abbrev bufTy : (tb : Table) → Fin (tcTables nBuf tb) → BufTy
  | .hbm, ⟨i, _⟩ => hbmTy i
  | _, _ => ⟨S512x2416, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_call0_cst : Ref sig .tc := ⟨.hbm, 24, rfl⟩
abbrev main_call0_v0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_c : Ref sig .tc := ⟨.hbm, 31, rfl⟩
abbrev main_v11_0 : Ref sig .tc := ⟨.hbm, 32, rfl⟩
abbrev main_v11_1 : Ref sig .tc := ⟨.hbm, 33, rfl⟩
abbrev main_v11_2 : Ref sig .tc := ⟨.hbm, 34, rfl⟩
abbrev main_v11_3 : Ref sig .tc := ⟨.hbm, 35, rfl⟩
abbrev main_v11_4 : Ref sig .tc := ⟨.hbm, 36, rfl⟩
abbrev main_v11_5 : Ref sig .tc := ⟨.hbm, 37, rfl⟩
abbrev main_v11_6 : Ref sig .tc := ⟨.hbm, 38, rfl⟩
abbrev main_v11_7 : Ref sig .tc := ⟨.hbm, 39, rfl⟩
abbrev main_v11_8 : Ref sig .tc := ⟨.hbm, 40, rfl⟩
abbrev main_v11_9 : Ref sig .tc := ⟨.hbm, 41, rfl⟩
abbrev main_v11_10 : Ref sig .tc := ⟨.hbm, 42, rfl⟩
abbrev main_while0c_c_23 : Ref sig .tc := ⟨.hbm, 43, rfl⟩
abbrev main_while0c_v97 : Ref sig .tc := ⟨.hbm, 44, rfl⟩
abbrev main_while0b_call1_c : Ref sig .tc := ⟨.hbm, 45, rfl⟩
abbrev main_while0b_call1_c_0 : Ref sig .tc := ⟨.hbm, 46, rfl⟩
abbrev main_while0b_call1_v0 : Ref sig .tc := ⟨.hbm, 47, rfl⟩
abbrev main_while0b_v97 : Ref sig .tc := ⟨.hbm, 48, rfl⟩
abbrev main_while0b_v98 : Ref sig .tc := ⟨.hbm, 49, rfl⟩
abbrev main_while0b_v99 : Ref sig .tc := ⟨.hbm, 50, rfl⟩
abbrev main_while0b_v100 : Ref sig .tc := ⟨.hbm, 51, rfl⟩
abbrev main_while0b_v101 : Ref sig .tc := ⟨.hbm, 52, rfl⟩
abbrev main_while0b_v102 : Ref sig .tc := ⟨.hbm, 53, rfl⟩
abbrev main_while0b_v103 : Ref sig .tc := ⟨.hbm, 54, rfl⟩
abbrev main_while0b_v104 : Ref sig .tc := ⟨.hbm, 55, rfl⟩
abbrev main_while0b_v105 : Ref sig .tc := ⟨.hbm, 56, rfl⟩
abbrev main_while0b_v106 : Ref sig .tc := ⟨.hbm, 57, rfl⟩
abbrev main_while0b_v107 : Ref sig .tc := ⟨.hbm, 58, rfl⟩
abbrev main_while0b_v108 : Ref sig .tc := ⟨.hbm, 59, rfl⟩
abbrev main_while0b_v109 : Ref sig .tc := ⟨.hbm, 60, rfl⟩
abbrev main_while0b_v110 : Ref sig .tc := ⟨.hbm, 61, rfl⟩
abbrev main_while0b_v111 : Ref sig .tc := ⟨.hbm, 62, rfl⟩
abbrev main_while0b_v112 : Ref sig .tc := ⟨.hbm, 63, rfl⟩
abbrev main_while0b_v113 : Ref sig .tc := ⟨.hbm, 64, rfl⟩
abbrev main_while0b_v114 : Ref sig .tc := ⟨.hbm, 65, rfl⟩
abbrev main_while0b_v115 : Ref sig .tc := ⟨.hbm, 66, rfl⟩
abbrev main_while0b_cst_23 : Ref sig .tc := ⟨.hbm, 67, rfl⟩
abbrev main_while0b_v116 : Ref sig .tc := ⟨.hbm, 68, rfl⟩
abbrev main_while0b_v117 : Ref sig .tc := ⟨.hbm, 69, rfl⟩
abbrev main_while0b_cst_24 : Ref sig .tc := ⟨.hbm, 70, rfl⟩
abbrev main_while0b_v118 : Ref sig .tc := ⟨.hbm, 71, rfl⟩
abbrev main_while0b_v119 : Ref sig .tc := ⟨.hbm, 72, rfl⟩
abbrev main_while0b_v120 : Ref sig .tc := ⟨.hbm, 73, rfl⟩
abbrev main_while0b_v121 : Ref sig .tc := ⟨.hbm, 74, rfl⟩
abbrev main_while0b_v122 : Ref sig .tc := ⟨.hbm, 75, rfl⟩
abbrev main_while0b_cst_25 : Ref sig .tc := ⟨.hbm, 76, rfl⟩
abbrev main_while0b_v123 : Ref sig .tc := ⟨.hbm, 77, rfl⟩
abbrev main_while0b_v124 : Ref sig .tc := ⟨.hbm, 78, rfl⟩
abbrev main_while0b_cst_26 : Ref sig .tc := ⟨.hbm, 79, rfl⟩
abbrev main_while0b_v125 : Ref sig .tc := ⟨.hbm, 80, rfl⟩
abbrev main_while0b_v126 : Ref sig .tc := ⟨.hbm, 81, rfl⟩
abbrev main_while0b_v127 : Ref sig .tc := ⟨.hbm, 82, rfl⟩
abbrev main_while0b_v128 : Ref sig .tc := ⟨.hbm, 83, rfl⟩
abbrev main_while0b_v129 : Ref sig .tc := ⟨.hbm, 84, rfl⟩
abbrev main_while0b_v130 : Ref sig .tc := ⟨.hbm, 85, rfl⟩
abbrev main_while0b_v131 : Ref sig .tc := ⟨.hbm, 86, rfl⟩
abbrev main_while0b_cst_27 : Ref sig .tc := ⟨.hbm, 87, rfl⟩
abbrev main_while0b_v132 : Ref sig .tc := ⟨.hbm, 88, rfl⟩
abbrev main_while0b_v133 : Ref sig .tc := ⟨.hbm, 89, rfl⟩
abbrev main_while0b_cst_28 : Ref sig .tc := ⟨.hbm, 90, rfl⟩
abbrev main_while0b_v134 : Ref sig .tc := ⟨.hbm, 91, rfl⟩
abbrev main_while0b_v135 : Ref sig .tc := ⟨.hbm, 92, rfl⟩
abbrev main_while0b_v136 : Ref sig .tc := ⟨.hbm, 93, rfl⟩
abbrev main_while0b_v137 : Ref sig .tc := ⟨.hbm, 94, rfl⟩
abbrev main_while0b_v138 : Ref sig .tc := ⟨.hbm, 95, rfl⟩
abbrev main_while0b_v139 : Ref sig .tc := ⟨.hbm, 96, rfl⟩
abbrev main_while0b_v140 : Ref sig .tc := ⟨.hbm, 97, rfl⟩
abbrev main_while0b_v141 : Ref sig .tc := ⟨.hbm, 98, rfl⟩
abbrev main_while0b_v142 : Ref sig .tc := ⟨.hbm, 99, rfl⟩
abbrev main_while0b_v143 : Ref sig .tc := ⟨.hbm, 100, rfl⟩
abbrev main_while0b_v144 : Ref sig .tc := ⟨.hbm, 101, rfl⟩
abbrev main_while0b_v145 : Ref sig .tc := ⟨.hbm, 102, rfl⟩
abbrev main_while0b_v146 : Ref sig .tc := ⟨.hbm, 103, rfl⟩
abbrev main_while0b_v147 : Ref sig .tc := ⟨.hbm, 104, rfl⟩
abbrev main_while0b_v148 : Ref sig .tc := ⟨.hbm, 105, rfl⟩
abbrev main_while0b_v149 : Ref sig .tc := ⟨.hbm, 106, rfl⟩
abbrev main_while0b_v150 : Ref sig .tc := ⟨.hbm, 107, rfl⟩
abbrev main_while0b_v151 : Ref sig .tc := ⟨.hbm, 108, rfl⟩
abbrev main_while0b_v152 : Ref sig .tc := ⟨.hbm, 109, rfl⟩
abbrev main_while0b_v153 : Ref sig .tc := ⟨.hbm, 110, rfl⟩
abbrev main_while0b_v154 : Ref sig .tc := ⟨.hbm, 111, rfl⟩
abbrev main_while0b_v155 : Ref sig .tc := ⟨.hbm, 112, rfl⟩
abbrev main_while0b_cst_29 : Ref sig .tc := ⟨.hbm, 113, rfl⟩
abbrev main_while0b_v156 : Ref sig .tc := ⟨.hbm, 114, rfl⟩
abbrev main_while0b_v157 : Ref sig .tc := ⟨.hbm, 115, rfl⟩
abbrev main_while0b_cst_30 : Ref sig .tc := ⟨.hbm, 116, rfl⟩
abbrev main_while0b_v158 : Ref sig .tc := ⟨.hbm, 117, rfl⟩
abbrev main_while0b_v159 : Ref sig .tc := ⟨.hbm, 118, rfl⟩
abbrev main_while0b_v160 : Ref sig .tc := ⟨.hbm, 119, rfl⟩
abbrev main_while0b_v161 : Ref sig .tc := ⟨.hbm, 120, rfl⟩
abbrev main_while0b_v162 : Ref sig .tc := ⟨.hbm, 121, rfl⟩
abbrev main_while0b_cst_31 : Ref sig .tc := ⟨.hbm, 122, rfl⟩
abbrev main_while0b_v163 : Ref sig .tc := ⟨.hbm, 123, rfl⟩
abbrev main_while0b_v164 : Ref sig .tc := ⟨.hbm, 124, rfl⟩
abbrev main_while0b_cst_32 : Ref sig .tc := ⟨.hbm, 125, rfl⟩
abbrev main_while0b_v165 : Ref sig .tc := ⟨.hbm, 126, rfl⟩
abbrev main_while0b_v166 : Ref sig .tc := ⟨.hbm, 127, rfl⟩
abbrev main_while0b_v167 : Ref sig .tc := ⟨.hbm, 128, rfl⟩
abbrev main_while0b_v168 : Ref sig .tc := ⟨.hbm, 129, rfl⟩
abbrev main_while0b_v169 : Ref sig .tc := ⟨.hbm, 130, rfl⟩
abbrev main_while0b_v170 : Ref sig .tc := ⟨.hbm, 131, rfl⟩
abbrev main_while0b_v171 : Ref sig .tc := ⟨.hbm, 132, rfl⟩
abbrev main_while0b_cst_33 : Ref sig .tc := ⟨.hbm, 133, rfl⟩
abbrev main_while0b_v172 : Ref sig .tc := ⟨.hbm, 134, rfl⟩
abbrev main_while0b_v173 : Ref sig .tc := ⟨.hbm, 135, rfl⟩
abbrev main_while0b_cst_34 : Ref sig .tc := ⟨.hbm, 136, rfl⟩
abbrev main_while0b_v174 : Ref sig .tc := ⟨.hbm, 137, rfl⟩
abbrev main_while0b_v175 : Ref sig .tc := ⟨.hbm, 138, rfl⟩
abbrev main_while0b_v176 : Ref sig .tc := ⟨.hbm, 139, rfl⟩
abbrev main_while0b_v177 : Ref sig .tc := ⟨.hbm, 140, rfl⟩
abbrev main_while0b_v178 : Ref sig .tc := ⟨.hbm, 141, rfl⟩
abbrev main_while0b_v179 : Ref sig .tc := ⟨.hbm, 142, rfl⟩
abbrev main_while0b_v180 : Ref sig .tc := ⟨.hbm, 143, rfl⟩
abbrev main_while0b_v181 : Ref sig .tc := ⟨.hbm, 144, rfl⟩
abbrev main_while0b_v182 : Ref sig .tc := ⟨.hbm, 145, rfl⟩
abbrev main_while0b_v183 : Ref sig .tc := ⟨.hbm, 146, rfl⟩
abbrev main_while0b_v184 : Ref sig .tc := ⟨.hbm, 147, rfl⟩
abbrev main_while0b_v185 : Ref sig .tc := ⟨.hbm, 148, rfl⟩
abbrev main_while0b_v186 : Ref sig .tc := ⟨.hbm, 149, rfl⟩
abbrev main_while0b_v187 : Ref sig .tc := ⟨.hbm, 150, rfl⟩
abbrev main_while0b_v188 : Ref sig .tc := ⟨.hbm, 151, rfl⟩
abbrev main_while0b_v189 : Ref sig .tc := ⟨.hbm, 152, rfl⟩
abbrev main_while0b_v190 : Ref sig .tc := ⟨.hbm, 153, rfl⟩
abbrev main_while0b_v191 : Ref sig .tc := ⟨.hbm, 154, rfl⟩
abbrev main_while0b_v192 : Ref sig .tc := ⟨.hbm, 155, rfl⟩
abbrev main_while0b_v193 : Ref sig .tc := ⟨.hbm, 156, rfl⟩
abbrev main_while0b_v194 : Ref sig .tc := ⟨.hbm, 157, rfl⟩
abbrev main_while0b_v195 : Ref sig .tc := ⟨.hbm, 158, rfl⟩
abbrev main_while0b_cst_35 : Ref sig .tc := ⟨.hbm, 159, rfl⟩
abbrev main_while0b_v196 : Ref sig .tc := ⟨.hbm, 160, rfl⟩
abbrev main_while0b_v197 : Ref sig .tc := ⟨.hbm, 161, rfl⟩
abbrev main_while0b_cst_36 : Ref sig .tc := ⟨.hbm, 162, rfl⟩
abbrev main_while0b_v198 : Ref sig .tc := ⟨.hbm, 163, rfl⟩
abbrev main_while0b_v199 : Ref sig .tc := ⟨.hbm, 164, rfl⟩
abbrev main_while0b_v200 : Ref sig .tc := ⟨.hbm, 165, rfl⟩
abbrev main_while0b_v201 : Ref sig .tc := ⟨.hbm, 166, rfl⟩
abbrev main_while0b_v202 : Ref sig .tc := ⟨.hbm, 167, rfl⟩
abbrev main_while0b_cst_37 : Ref sig .tc := ⟨.hbm, 168, rfl⟩
abbrev main_while0b_v203 : Ref sig .tc := ⟨.hbm, 169, rfl⟩
abbrev main_while0b_v204 : Ref sig .tc := ⟨.hbm, 170, rfl⟩
abbrev main_while0b_cst_38 : Ref sig .tc := ⟨.hbm, 171, rfl⟩
abbrev main_while0b_v205 : Ref sig .tc := ⟨.hbm, 172, rfl⟩
abbrev main_while0b_v206 : Ref sig .tc := ⟨.hbm, 173, rfl⟩
abbrev main_while0b_v207 : Ref sig .tc := ⟨.hbm, 174, rfl⟩
abbrev main_while0b_v208 : Ref sig .tc := ⟨.hbm, 175, rfl⟩
abbrev main_while0b_v209 : Ref sig .tc := ⟨.hbm, 176, rfl⟩
abbrev main_while0b_v210 : Ref sig .tc := ⟨.hbm, 177, rfl⟩
abbrev main_while0b_v211 : Ref sig .tc := ⟨.hbm, 178, rfl⟩
abbrev main_while0b_cst_39 : Ref sig .tc := ⟨.hbm, 179, rfl⟩
abbrev main_while0b_v212 : Ref sig .tc := ⟨.hbm, 180, rfl⟩
abbrev main_while0b_v213 : Ref sig .tc := ⟨.hbm, 181, rfl⟩
abbrev main_while0b_cst_40 : Ref sig .tc := ⟨.hbm, 182, rfl⟩
abbrev main_while0b_v214 : Ref sig .tc := ⟨.hbm, 183, rfl⟩
abbrev main_while0b_v215 : Ref sig .tc := ⟨.hbm, 184, rfl⟩
abbrev main_while0b_v216 : Ref sig .tc := ⟨.hbm, 185, rfl⟩
abbrev main_while0b_v217 : Ref sig .tc := ⟨.hbm, 186, rfl⟩
abbrev main_while0b_c_41 : Ref sig .tc := ⟨.hbm, 187, rfl⟩
abbrev main_while0b_v218 : Ref sig .tc := ⟨.hbm, 188, rfl⟩
abbrev main_v12 : Ref sig .tc := ⟨.hbm, 189, rfl⟩
abbrev main_v13 : Ref sig .tc := ⟨.hbm, 190, rfl⟩
abbrev main_v14 : Ref sig .tc := ⟨.hbm, 191, rfl⟩
abbrev main_v15 : Ref sig .tc := ⟨.hbm, 192, rfl⟩
abbrev main_v16 : Ref sig .tc := ⟨.hbm, 193, rfl⟩
abbrev main_v17 : Ref sig .tc := ⟨.hbm, 194, rfl⟩
abbrev main_v18 : Ref sig .tc := ⟨.hbm, 195, rfl⟩
abbrev main_v19 : Ref sig .tc := ⟨.hbm, 196, rfl⟩
abbrev main_v20 : Ref sig .tc := ⟨.hbm, 197, rfl⟩
abbrev main_v21 : Ref sig .tc := ⟨.hbm, 198, rfl⟩
abbrev main_v22 : Ref sig .tc := ⟨.hbm, 199, rfl⟩
abbrev main_call2_c : Ref sig .tc := ⟨.hbm, 200, rfl⟩
abbrev main_call2_v0 : Ref sig .tc := ⟨.hbm, 201, rfl⟩
abbrev main_call2_v1 : Ref sig .tc := ⟨.hbm, 202, rfl⟩
abbrev main_call2_c_0 : Ref sig .tc := ⟨.hbm, 203, rfl⟩
abbrev main_call2_v2 : Ref sig .tc := ⟨.hbm, 204, rfl⟩
abbrev main_call2_v3 : Ref sig .tc := ⟨.hbm, 205, rfl⟩
abbrev main_call2_v4 : Ref sig .tc := ⟨.hbm, 206, rfl⟩
abbrev main_call2_c_1 : Ref sig .tc := ⟨.hbm, 207, rfl⟩
abbrev main_call2_c_2 : Ref sig .tc := ⟨.hbm, 208, rfl⟩
abbrev main_call2_v5 : Ref sig .tc := ⟨.hbm, 209, rfl⟩
abbrev main_call2_v6 : Ref sig .tc := ⟨.hbm, 210, rfl⟩
abbrev main_call2_v7 : Ref sig .tc := ⟨.hbm, 211, rfl⟩
abbrev main_call2_v8 : Ref sig .tc := ⟨.hbm, 212, rfl⟩
abbrev main_call2_v9 : Ref sig .tc := ⟨.hbm, 213, rfl⟩
abbrev main_call2_v10 : Ref sig .tc := ⟨.hbm, 214, rfl⟩
abbrev main_call2_c_3 : Ref sig .tc := ⟨.hbm, 215, rfl⟩
abbrev main_call2_v11 : Ref sig .tc := ⟨.hbm, 216, rfl⟩
abbrev main_call2_v12 : Ref sig .tc := ⟨.hbm, 217, rfl⟩
abbrev main_call2_v13 : Ref sig .tc := ⟨.hbm, 218, rfl⟩
abbrev main_call2_cst : Ref sig .tc := ⟨.hbm, 219, rfl⟩
abbrev main_call2_v14 : Ref sig .tc := ⟨.hbm, 220, rfl⟩
abbrev main_v23 : Ref sig .tc := ⟨.hbm, 221, rfl⟩
abbrev main_v24 : Ref sig .tc := ⟨.hbm, 222, rfl⟩
abbrev main_v25 : Ref sig .tc := ⟨.hbm, 223, rfl⟩
abbrev main_v26 : Ref sig .tc := ⟨.hbm, 224, rfl⟩
abbrev main_v27 : Ref sig .tc := ⟨.hbm, 225, rfl⟩
abbrev main_v28 : Ref sig .tc := ⟨.hbm, 226, rfl⟩
abbrev main_cst_0 : Ref sig .tc := ⟨.hbm, 227, rfl⟩
abbrev main_v29 : Ref sig .tc := ⟨.hbm, 228, rfl⟩
abbrev main_cst_1 : Ref sig .tc := ⟨.hbm, 229, rfl⟩
abbrev main_v30 : Ref sig .tc := ⟨.hbm, 230, rfl⟩
abbrev main_v31 : Ref sig .tc := ⟨.hbm, 231, rfl⟩
abbrev main_v32 : Ref sig .tc := ⟨.hbm, 232, rfl⟩
abbrev main_v33 : Ref sig .tc := ⟨.hbm, 233, rfl⟩
abbrev main_v34 : Ref sig .tc := ⟨.hbm, 234, rfl⟩
abbrev main_v35 : Ref sig .tc := ⟨.hbm, 235, rfl⟩
abbrev main_v36 : Ref sig .tc := ⟨.hbm, 236, rfl⟩
abbrev main_v37 : Ref sig .tc := ⟨.hbm, 237, rfl⟩
abbrev main_v38 : Ref sig .tc := ⟨.hbm, 238, rfl⟩
abbrev main_cst_2 : Ref sig .tc := ⟨.hbm, 239, rfl⟩
abbrev main_v39 : Ref sig .tc := ⟨.hbm, 240, rfl⟩
abbrev main_cst_3 : Ref sig .tc := ⟨.hbm, 241, rfl⟩
abbrev main_v40 : Ref sig .tc := ⟨.hbm, 242, rfl⟩
abbrev main_v41 : Ref sig .tc := ⟨.hbm, 243, rfl⟩
abbrev main_v42 : Ref sig .tc := ⟨.hbm, 244, rfl⟩
abbrev main_v43 : Ref sig .tc := ⟨.hbm, 245, rfl⟩
abbrev main_v44 : Ref sig .tc := ⟨.hbm, 246, rfl⟩
abbrev main_v45 : Ref sig .tc := ⟨.hbm, 247, rfl⟩
abbrev main_v46 : Ref sig .tc := ⟨.hbm, 248, rfl⟩
abbrev main_v47 : Ref sig .tc := ⟨.hbm, 249, rfl⟩
abbrev main_cst_4 : Ref sig .tc := ⟨.hbm, 250, rfl⟩
abbrev main_v48 : Ref sig .tc := ⟨.hbm, 251, rfl⟩
abbrev main_v49 : Ref sig .tc := ⟨.hbm, 252, rfl⟩
abbrev main_v50 : Ref sig .tc := ⟨.hbm, 253, rfl⟩
abbrev main_v51 : Ref sig .tc := ⟨.hbm, 254, rfl⟩
abbrev main_v52 : Ref sig .tc := ⟨.hbm, 255, rfl⟩
abbrev main_v53 : Ref sig .tc := ⟨.hbm, 256, rfl⟩
abbrev main_v54 : Ref sig .tc := ⟨.hbm, 257, rfl⟩
abbrev main_v55 : Ref sig .tc := ⟨.hbm, 258, rfl⟩
abbrev main_v56 : Ref sig .tc := ⟨.hbm, 259, rfl⟩
abbrev main_cst_5 : Ref sig .tc := ⟨.hbm, 260, rfl⟩
abbrev main_call3_cst : Ref sig .tc := ⟨.hbm, 261, rfl⟩
abbrev main_call3_v0 : Ref sig .tc := ⟨.hbm, 262, rfl⟩
abbrev main_call3_v1 : Ref sig .tc := ⟨.hbm, 263, rfl⟩
abbrev main_call3_v2 : Ref sig .tc := ⟨.hbm, 264, rfl⟩
abbrev main_call3_v3 : Ref sig .tc := ⟨.hbm, 265, rfl⟩
abbrev main_call3_v4 : Ref sig .tc := ⟨.hbm, 266, rfl⟩
abbrev main_v57 : Ref sig .tc := ⟨.hbm, 267, rfl⟩
abbrev main_v58 : Ref sig .tc := ⟨.hbm, 268, rfl⟩
abbrev main_cst_6 : Ref sig .tc := ⟨.hbm, 269, rfl⟩
abbrev main_v59 : Ref sig .tc := ⟨.hbm, 270, rfl⟩
abbrev main_cst_7 : Ref sig .tc := ⟨.hbm, 271, rfl⟩
abbrev main_v60 : Ref sig .tc := ⟨.hbm, 272, rfl⟩
abbrev main_v61 : Ref sig .tc := ⟨.hbm, 273, rfl⟩
abbrev main_v62 : Ref sig .tc := ⟨.hbm, 274, rfl⟩
abbrev main_v63 : Ref sig .tc := ⟨.hbm, 275, rfl⟩
abbrev main_v64 : Ref sig .tc := ⟨.hbm, 276, rfl⟩
abbrev main_v65 : Ref sig .tc := ⟨.hbm, 277, rfl⟩
abbrev main_v66 : Ref sig .tc := ⟨.hbm, 278, rfl⟩
abbrev main_v67 : Ref sig .tc := ⟨.hbm, 279, rfl⟩
abbrev main_v68 : Ref sig .tc := ⟨.hbm, 280, rfl⟩
abbrev main_cst_8 : Ref sig .tc := ⟨.hbm, 281, rfl⟩
abbrev main_v69 : Ref sig .tc := ⟨.hbm, 282, rfl⟩
abbrev main_cst_9 : Ref sig .tc := ⟨.hbm, 283, rfl⟩
abbrev main_v70 : Ref sig .tc := ⟨.hbm, 284, rfl⟩
abbrev main_v71 : Ref sig .tc := ⟨.hbm, 285, rfl⟩
abbrev main_v72 : Ref sig .tc := ⟨.hbm, 286, rfl⟩
abbrev main_v73 : Ref sig .tc := ⟨.hbm, 287, rfl⟩
abbrev main_v74 : Ref sig .tc := ⟨.hbm, 288, rfl⟩
abbrev main_v75 : Ref sig .tc := ⟨.hbm, 289, rfl⟩
abbrev main_v76 : Ref sig .tc := ⟨.hbm, 290, rfl⟩
abbrev main_v77 : Ref sig .tc := ⟨.hbm, 291, rfl⟩
abbrev main_cst_10 : Ref sig .tc := ⟨.hbm, 292, rfl⟩
abbrev main_v78 : Ref sig .tc := ⟨.hbm, 293, rfl⟩
abbrev main_v79 : Ref sig .tc := ⟨.hbm, 294, rfl⟩
abbrev main_v80 : Ref sig .tc := ⟨.hbm, 295, rfl⟩
abbrev main_v81 : Ref sig .tc := ⟨.hbm, 296, rfl⟩
abbrev main_v82 : Ref sig .tc := ⟨.hbm, 297, rfl⟩
abbrev main_v83 : Ref sig .tc := ⟨.hbm, 298, rfl⟩
abbrev main_v84 : Ref sig .tc := ⟨.hbm, 299, rfl⟩
abbrev main_v85 : Ref sig .tc := ⟨.hbm, 300, rfl⟩
abbrev main_v86 : Ref sig .tc := ⟨.hbm, 301, rfl⟩
abbrev main_v87 : Ref sig .tc := ⟨.hbm, 302, rfl⟩
abbrev main_v88 : Ref sig .tc := ⟨.hbm, 303, rfl⟩
abbrev main_v89 : Ref sig .tc := ⟨.hbm, 304, rfl⟩
abbrev main_v90 : Ref sig .tc := ⟨.hbm, 305, rfl⟩
abbrev main_v91 : Ref sig .tc := ⟨.hbm, 306, rfl⟩
abbrev main_v92 : Ref sig .tc := ⟨.hbm, 307, rfl⟩
abbrev main_cst_11 : Ref sig .tc := ⟨.hbm, 308, rfl⟩
abbrev main_v93 : Ref sig .tc := ⟨.hbm, 309, rfl⟩
abbrev main_v94 : Ref sig .tc := ⟨.hbm, 310, rfl⟩
abbrev main_cst_12 : Ref sig .tc := ⟨.hbm, 311, rfl⟩
abbrev main_v95 : Ref sig .tc := ⟨.hbm, 312, rfl⟩
abbrev main_v96 : Ref sig .tc := ⟨.hbm, 313, rfl⟩

abbrev nD : Nat := 1
abbrev τ : Topo := Topo.v7x

variable {F : FTy → Type} [FloatOps F]

abbrev main_while0_count : Scf.Loop 32 := ⟨0#32, 12#32, 1#32⟩
-- ==== Proof.KernelSteps.lean ====
/- The kernel's own steps as functions on arrays: one graph convolution, one step of a recurrent layer on one half of the batch, the layers unrolled in time, and the dense tail.
   `KernelOut.lean` shows that what the kernel writes is `kOut` of its input blocks. -/
module

public import proofs.«01_k».proof.Proof.Gen.KernelIdeal.Skeleton
public import Idealize.ShloMosaic.Lib.Pipeline.ReadBack
public import Idealize.ShloMosaic.Lib.Pointwise

@[expose] public section

noncomputable section

namespace Cert.Stgcn

open Cert.KernelIdeal Cert.KernelIdeal.Gen Idealize.ShloMosaic

variable {F : FTy → Type} [FloatOps F]

/-- Plane `l` of a stack of matrices. -/
def plane {a b c : ℕ} {α : Type} (x : (⟨3, ![a, b, c]⟩ : Shape).Idx → α) (l : Fin a) : (⟨2, ![b, c]⟩ : Shape).Idx → α :=
  fun j => x (ix3 l (j 0) (j 1))

/-- Row `l` of a matrix, as a matrix of one row. -/
def rowOf {a b : ℕ} {α : Type} (x : (⟨2, ![a, b]⟩ : Shape).Idx → α) (l : Fin a) : (⟨2, ![1, b]⟩ : Shape).Idx → α :=
  fun j => x (ix2 l (j 1))

/-- Rows `o` to `o + 255` of a matrix of 512 rows. -/
def half (o : ℕ) (ho : o + 256 ≤ 512) {α : Type} (x : S512x64.Idx → α) : S256x64.Idx → α :=
  fun j => x (ix2 ⟨o + (j 0).val, by have : (j 0).val < 256 := (j 0).isLt; omega⟩ (j 1))

/-- Columns `o` to `o + 511` of a row of 1024. -/
def lanes (o : ℕ) (ho : o + 512 ≤ 1024) {α : Type} (x : S1x1024.Idx → α) : S1x512.Idx → α :=
  fun j => x (ix2 (j 0) ⟨o + (j 1).val, by have : (j 1).val < 512 := (j 1).isLt; omega⟩)

/-- The first fifteen columns of a matrix of sixteen. -/
def first15 {α : Type} (x : S512x16.Idx → α) : S512x15.Idx → α :=
  fun j => x (ix2 (j 0) ⟨(j 1).val, Nat.lt_succ_of_lt (j 1).isLt⟩)

/-- The last column of a matrix of sixteen. -/
def last1 {α : Type} (x : S512x16.Idx → α) : S512x1.Idx → α :=
  fun j => x (ix2 (j 0) ⟨15 + (j 1).val, Nat.add_lt_add_left (j 1).isLt 15⟩)

/-! ### The graph convolution -/

/-- Each sample's node id, as an array that is one at the node and zero elsewhere. -/
def oneHot (s : FVec F S512x1 .f32) : FVec F S512x200 .f32 :=
  sitofp .f32 (extui 32 (cmpi .eq (iota .tc S512x200 32 [1] iota_S512x200_d1_w32)
    (broadcastTo S512x200 (fptosi 32 s) broadcasts_S512x1_S512x200)) natLt_1_32)

/-- Each sample's row of the graph matrix. -/
def adjRows (s : FVec F S512x1 .f32) (a : FVec F S200x200 .f32) : FVec F S512x200 .f32 :=
  matmul dot_S512x200_S200x200_S512x200_1_0_0_1_n_n none (oneHot s) a (constant S512x200 .f32 0x00000000#32)

/-- A weight row repeated once per node. -/
def wRep (w : FVec F S1x64 .f32) : FVec F S200x64 .f32 := broadcastTo S200x64 w broadcasts_S1x64_S200x64

/-- The graph convolution of one time step at each sample's node. -/
def gcn (oh ar : FVec F S512x200 .f32) (w0 w1 : FVec F S200x64 .f32) (bg : FVec F S1x64 .f32) (x : FVec F S512x200 .f32) :
    FVec F S512x64 .f32 :=
  maximumf (addf (addf
    (matmul dot_S512x200_S200x64_S512x64_1_0_0_1_n_n none (mulf oh x) w0 (constant S512x64 .f32 0x00000000#32))
    (matmul dot_S512x200_S200x64_S512x64_1_0_0_1_n_n none (mulf ar x) w1 (constant S512x64 .f32 0x00000000#32)))
    (broadcastTo S512x64 bg broadcasts_S1x64_S512x64)) (broadcast S512x64 (FloatOps.ofBits .f32 0x00000000#32))

/-! ### A recurrent layer -/

/-- The lane scale: a half on the three sigmoid gates, one on the tanh gate. -/
def gateScale : FVec F S1x256 .f32 :=
  select (ori (cmpi .slt (iota .tc S1x256 32 [1] iota_S1x256_d1_w32) (broadcast S1x256 128#32))
      (cmpi .sge (iota .tc S1x256 32 [1] iota_S1x256_d1_w32) (broadcast S1x256 192#32)))
    (broadcast S1x256 (FloatOps.ofBits .f32 0x3F000000#32)) (broadcast S1x256 (FloatOps.ofBits .f32 0x3F800000#32))

/-- The lane scale halved once more: it undoes the doubling of the stored hidden state. -/
def halfScale : FVec F S1x256 .f32 := mulf (broadcast S1x256 (FloatOps.ofBits .f32 0x3F000000#32)) gateScale

/-- A weight matrix with its lanes scaled. -/
def scaled (w : FVec F S64x256 .f32) (g : FVec F S1x256 .f32) : FVec F S64x256 .f32 :=
  mulf w (broadcastTo S64x256 g broadcasts_S1x256_S64x256)

/-- The input weights over the recurrent ones. -/
def stack2 (wx wh : FVec F S64x256 .f32) : FVec F S128x256 .f32 :=
  concatenate S128x256 0 [⟨S64x256, wx⟩, ⟨S64x256, wh⟩] concatenates_S64x256_S64x256_S128x256_d0

/-- The input and the recurrent state side by side. -/
def beside (x h : FVec F S256x64 .f32) : FVec F S256x128 .f32 :=
  concatenate S256x128 1 [⟨S256x64, x⟩, ⟨S256x64, h⟩] concatenates_S256x64_S256x64_S256x128_d1

/-- The four gates of one step, before their nonlinearities. -/
def zK (W : FVec F S128x256 .f32) (bl : FVec F S1x256 .f32) (x h : FVec F S256x64 .f32) : FVec F S256x256 .f32 :=
  addf (matmul dot_S256x128_S128x256_S256x256_1_0_0_1_n_n none (beside x h) W
      (constant S256x256 .f32 0x00000000#32))
    (broadcastTo S256x256 bl broadcasts_S1x256_S256x256)

/-- The cell state after one step. -/
def cK (z : FVec F S256x256 .f32) (c : FVec F S256x64 .f32) : FVec F S256x64 .f32 :=
  mulf (broadcast S256x64 (FloatOps.ofBits .f32 0x3F000000#32))
    (addf (addf (addf (mulf (tanh (extractStridedSlice S256x64 ![0, 64] z slices_S256x256_o0_64_S256x64)) c) c)
      (mulf (tanh (extractStridedSlice S256x64 ![0, 0] z slices_S256x256_o0_0_S256x64))
        (tanh (extractStridedSlice S256x64 ![0, 128] z slices_S256x256_o0_128_S256x64))))
      (tanh (extractStridedSlice S256x64 ![0, 128] z slices_S256x256_o0_128_S256x64)))

/-- Twice the hidden state after one step, from the gates and the new cell state. -/
def hK (z : FVec F S256x256 .f32) (c : FVec F S256x64 .f32) : FVec F S256x64 .f32 :=
  addf (mulf (tanh (extractStridedSlice S256x64 ![0, 192] z slices_S256x256_o0_192_S256x64)) (tanh c)) (tanh c)

/-- A layer unrolled in time over the inputs `x`: cell state and doubled hidden state after `t` steps. -/
def layerK (W : FVec F S128x256 .f32) (bl : FVec F S1x256 .f32) (x : ℕ → FVec F S256x64 .f32) :
    ℕ → FVec F S256x64 .f32 × FVec F S256x64 .f32
  | 0 => (broadcast S256x64 (FloatOps.ofBits .f32 0x00000000#32), broadcast S256x64 (FloatOps.ofBits .f32 0x00000000#32))
  | t + 1 =>
    (cK (zK W bl (x t) (layerK W bl x t).2) (layerK W bl x t).1,
      hK (zK W bl (x t) (layerK W bl x t).2) (cK (zK W bl (x t) (layerK W bl x t).2) (layerK W bl x t).1))

/-- The three layers over one half of the batch: the last doubled hidden state of the last one. -/
def lstmK (W0 W1 W2 : FVec F S128x256 .f32) (b0 b1 b2 : FVec F S1x256 .f32) (x : ℕ → FVec F S256x64 .f32) : FVec F S256x64 .f32 :=
  (layerK W2 b2 (fun t => (layerK W1 b1 (fun t => (layerK W0 b0 x (t + 1)).2) (t + 1)).2) 12).2

/-! ### The dense tail -/

/-- The mean of each column. -/
def colMean (h : FVec F S512x512 .f32) : FVec F S1x512 .f32 :=
  divf (shapeCast S1x512 (multiReduction .add [0] S512 h 0x00000000#32 reduces_S512x512_S512 (.inl rfl) rfl)
    shapeCasts_S512_S1x512) (broadcast S1x512 (FloatOps.ofBits .f32 0x44000000#32))

/-- A matrix less a row. -/
def lessRow (h : FVec F S512x512 .f32) (m : FVec F S1x512 .f32) : FVec F S512x512 .f32 :=
  subf h (broadcastTo S512x512 m broadcasts_S1x512_S512x512)

/-- Batch normalisation of each column over the samples. -/
def bnK (g be : FVec F S1x512 .f32) (h : FVec F S512x512 .f32) : FVec F S512x512 .f32 :=
  addf (mulf (mulf (broadcastTo S512x512 g broadcasts_S1x512_S512x512) (lessRow h (colMean h)))
      (broadcastTo S512x512 (rsqrt (addf (colMean (mulf (lessRow h (colMean h)) (lessRow h (colMean h))))
        (broadcast S1x512 (FloatOps.ofBits .f32 0x3727C5AC#32)))) broadcasts_S1x512_S512x512))
    (broadcastTo S512x512 be broadcasts_S1x512_S512x512)

/-- The leaky rectifier. -/
def leakyK (h : FVec F S512x512 .f32) : FVec F S512x512 .f32 :=
  select (cmpf .oge h (broadcast S512x512 (FloatOps.ofBits .f32 0x00000000#32))) h
    (mulf (broadcast S512x512 (FloatOps.ofBits .f32 0x3C23D70A#32)) h)

/-- The two halves of the batch one above the other. -/
def above (a b : FVec F S256x512 .f32) : FVec F S512x512 .f32 :=
  concatenate S512x512 0 [⟨S256x512, a⟩, ⟨S256x512, b⟩] concatenates_S256x512_S256x512_S512x512_d0

/-- The recurrent features: half the output weights applied to the two halves' doubled hidden states. -/
def featK (ha hb : FVec F S256x64 .f32) (w : FVec F S64x512 .f32) (b : FVec F S1x512 .f32) : FVec F S512x512 .f32 :=
  addf (above
      (matmul dot_S256x64_S64x512_S256x512_1_0_0_1_n_n none ha
        (mulf w (broadcast S64x512 (FloatOps.ofBits .f32 0x3F000000#32))) (constant S256x512 .f32 0x00000000#32))
      (matmul dot_S256x64_S64x512_S256x512_1_0_0_1_n_n none hb
        (mulf w (broadcast S64x512 (FloatOps.ofBits .f32 0x3F000000#32))) (constant S256x512 .f32 0x00000000#32)))
    (broadcastTo S512x512 b broadcasts_S1x512_S512x512)

/-- The static features before normalisation. -/
def staticK (x : FVec F S512x15 .f32) (w : FVec F S15x512 .f32) (b : FVec F S1x512 .f32) : FVec F S512x512 .f32 :=
  addf (matmul dot_S512x15_S15x512_S512x512_1_0_0_1_n_n none x w (constant S512x512 .f32 0x00000000#32))
    (broadcastTo S512x512 b broadcasts_S1x512_S512x512)

/-- The weighted sum of each row. -/
def rowDot (h : FVec F S512x512 .f32) (w : FVec F S1x512 .f32) : FVec F S512x1 .f32 :=
  shapeCast S512x1 (multiReduction .add [1] S512 (mulf h (broadcastTo S512x512 w broadcasts_S1x512_S512x512)) 0x00000000#32
    reduces_S512x512_S512_2 (.inl rfl) rfl) shapeCasts_S512_S512x1

/-- The logistic function in its tanh form. -/
def sigK (y : FVec F S512x1 .f32) : FVec F S512x1 .f32 :=
  addf (mulf (broadcast S512x1 (FloatOps.ofBits .f32 0x3F000000#32))
      (tanh (mulf (broadcast S512x1 (FloatOps.ofBits .f32 0x3F000000#32)) y)))
    (broadcast S512x1 (FloatOps.ofBits .f32 0x3F000000#32))

/-- What the last layer makes of the two groups of features. -/
def headK (a b : FVec F S512x512 .f32) (ga ba gb bb wa wb : FVec F S1x512 .f32) (b1 : FVec F S1x1 .f32) : FVec F S512x1 .f32 :=
  sigK (addf (addf (rowDot (bnK ga ba a) wa) (rowDot (bnK gb bb b) wb)) (broadcastTo S512x1 b1 broadcasts_S1x1_S512x1))

/-! ### The whole body -/

/-- The stacked weights of layer `l`: the first layer's inputs are not doubled. -/
def wAt (x5 x6 : FVec F S3x64x256 .f32) (l : ℕ) (g : FVec F S1x256 .f32) : FVec F S128x256 .f32 :=
  stack2 (scaled (plane x5 (Fin.ofNat 3 l)) g) (scaled (plane x6 (Fin.ofNat 3 l)) halfScale)

/-- The scaled gate offsets of layer `l`. -/
def bAt (x7 : FVec F S3x256 .f32) (l : ℕ) : FVec F S1x256 .f32 := mulf (rowOf x7 (Fin.ofNat 3 l)) gateScale

/-- The graph features of every sample at time `t`. -/
def seqK (x0 : FVec F S12x512x200 .f32) (x1 : FVec F S512x16 .f32) (x2 : FVec F S200x200 .f32) (x3 : FVec F S2x1x64 .f32)
    (x4 : FVec F S1x64 .f32) (t : ℕ) : FVec F S512x64 .f32 :=
  gcn (oneHot (last1 x1)) (adjRows (last1 x1) x2) (wRep (plane x3 (Fin.ofNat 2 0))) (wRep (plane x3 (Fin.ofNat 2 1))) x4 (plane x0 (Fin.ofNat 12 t))

/-- The last doubled hidden state of the rows `o` to `o + 255`, from the graph features. -/
def hidK (s : ℕ → FVec F S512x64 .f32) (x5 x6 : FVec F S3x64x256 .f32) (x7 : FVec F S3x256 .f32) (o : ℕ) (ho : o + 256 ≤ 512) :
    FVec F S256x64 .f32 :=
  lstmK (wAt x5 x6 0 gateScale) (wAt x5 x6 1 halfScale) (wAt x5 x6 2 halfScale) (bAt x7 0) (bAt x7 1) (bAt x7 2)
    (fun t => half o ho (s t))

/-- What the body writes, from its input blocks. -/
def kOut (x0 : FVec F S12x512x200 .f32) (x1 : FVec F S512x16 .f32) (x2 : FVec F S200x200 .f32) (x3 : FVec F S2x1x64 .f32)
    (x4 : FVec F S1x64 .f32) (x5 x6 : FVec F S3x64x256 .f32) (x7 : FVec F S3x256 .f32) (x8 : FVec F S64x512 .f32)
    (x9 : FVec F S1x512 .f32) (x10 : FVec F S15x512 .f32) (x11 x12 x13 : FVec F S1x512 .f32)
    (x14 x15 x16 : FVec F S1x1024 .f32) (x17 : FVec F S1x1 .f32) : FVec F S512x1 .f32 :=
  headK (leakyK (bnK x12 x13 (staticK (first15 x1) x10 x11)))
    (featK (hidK (seqK x0 x1 x2 x3 x4) x5 x6 x7 0 (by decide)) (hidK (seqK x0 x1 x2 x3 x4) x5 x6 x7 256 (by decide)) x8 x9)
    (lanes 0 (by decide) x14) (lanes 0 (by decide) x15) (lanes 512 (by decide) x14) (lanes 512 (by decide) x15)
    (lanes 0 (by decide) x16) (lanes 512 (by decide) x16) x17

end Cert.Stgcn

end
-- ==== Proof.KernelLoads.lean ====
/- What the kernel's loads read: a plane of a stack, a row of a matrix, some lanes of a row, and half of an earlier store of the scratch. -/
module

public import proofs.«01_k».proof.Proof.KernelSteps
public import Idealize.ShloMosaic.Lib.Pipeline.ValueKit.Tiles

@[expose] public section

noncomputable section

namespace Cert.Stgcn

open Cert.KernelIdeal Cert.KernelIdeal.Gen Idealize.ShloMosaic

variable {F : FTy → Type} [FloatOps F]

/-- A load of 256 rows out of a store of 512 that holds them reads those rows of the store's payload. -/
theorem readCov_half {sig : RefSig} {κ : Kind} {sp : Space} (v : View sig κ sp S6144x64 .f32) {p q : ℕ} (inb : ∀ a, ![p, 0] a + S512x64.size a ≤ S6144x64.size a)
    (inb' : ∀ a, ![q, 0] a + S256x64.size a ≤ S6144x64.size a) (w : FVec F S512x64 .f32) (L : List (View.Piece (Elt F) S6144x64 .f32))
    (o : ℕ) (ho : o + 256 ≤ 512) (h : q = p + o) :
    v.readCov (⟨Rect.unit (s := S6144x64) ![p, 0] S512x64.size inb, w⟩ :: L) (Rect.unit (s := S6144x64) ![q, 0] S256x64.size inb').toLoadRect = half o ho w := by
  subst h
  rw [View.readCov_eq_canon']
  funext j
  refine Eq.trans (congrArg _ ?_) (View.canon_cons_emb (Rect.unit (s := S6144x64) ![p, 0] S512x64.size inb) w L (ix2 ⟨o + (j 0).val, by have : (j 0).val < 256 := (j 0).isLt; omega⟩ (j 1)))
  funext a
  refine Fin.ext ?_
  fin_cases a
  · show p + o + 1 * (j 0).val = p + 1 * (o + (j 0).val)
    omega
  · rfl

/-- The first half of a store of 512 rows. -/
theorem readCov_low {sig : RefSig} {κ : Kind} {sp : Space} (v : View sig κ sp S6144x64 .f32) {p : ℕ} (inb : ∀ a, ![p, 0] a + S512x64.size a ≤ S6144x64.size a)
    (inb' : ∀ a, ![p, 0] a + S256x64.size a ≤ S6144x64.size a) (w : FVec F S512x64 .f32) (L : List (View.Piece (Elt F) S6144x64 .f32)) :
    v.readCov (⟨Rect.unit (s := S6144x64) ![p, 0] S512x64.size inb, w⟩ :: L) (Rect.unit (s := S6144x64) ![p, 0] S256x64.size inb').toLoadRect = half 0 (by decide) w :=
  readCov_half v inb inb' w L 0 _ rfl

/-- The second half of a store of 512 rows. -/
theorem readCov_high {sig : RefSig} {κ : Kind} {sp : Space} (v : View sig κ sp S6144x64 .f32) {p q : ℕ} (inb : ∀ a, ![p, 0] a + S512x64.size a ≤ S6144x64.size a)
    (inb' : ∀ a, ![q, 0] a + S256x64.size a ≤ S6144x64.size a) (w : FVec F S512x64 .f32) (L : List (View.Piece (Elt F) S6144x64 .f32))
    (h : q = p + 256) :
    v.readCov (⟨Rect.unit (s := S6144x64) ![p, 0] S512x64.size inb, w⟩ :: L) (Rect.unit (s := S6144x64) ![q, 0] S256x64.size inb').toLoadRect = half 256 (by decide) w :=
  readCov_half v inb inb' w L 256 _ h

/-- One time step of the signals. -/
theorem load_x (x : FVec F S12x512x200 .f32) (k : ℕ) (inb : ∀ a, ![k, 0, 0] a + S1x512x200.size a ≤ S12x512x200.size a)
    (h : S1x512x200.ShapeCasts S512x200) :
    shapeCast S512x200 (View.ld (Val := Elt F) (e' := .f32) x (Rect.unit ![k, 0, 0] ![1, 512, 200] inb)) h = plane x (Fin.ofNat 12 k) := by
  funext j
  have hk : k + 1 ≤ 12 := inb 0
  have e : Shape.reshapeEquiv h j = ix3 0 (j 0) (j 1) := by simp only [reshapeIdx]; rfl
  show View.ld (Val := Elt F) (e' := .f32) x (Rect.unit ![k, 0, 0] ![1, 512, 200] inb) (Shape.reshapeEquiv h j) = _
  rw [e]
  refine View.ld_unit_apply_of (Val := Elt F) (e := .f32) x _ _ inb _ _ fun a => ?_
  fin_cases a
  · exact Nat.mod_eq_of_lt hk
  · exact (Nat.zero_add _).symm
  · exact (Nat.zero_add _).symm

/-- One layer's weights. -/
theorem load_w (x : FVec F S3x64x256 .f32) (k : ℕ) (inb : ∀ a, ![k, 0, 0] a + S1x64x256.size a ≤ S3x64x256.size a)
    (h : S1x64x256.ShapeCasts S64x256) :
    shapeCast S64x256 (View.ld (Val := Elt F) (e' := .f32) x (Rect.unit ![k, 0, 0] ![1, 64, 256] inb)) h = plane x (Fin.ofNat 3 k) := by
  funext j
  have hk : k + 1 ≤ 3 := inb 0
  have e : Shape.reshapeEquiv h j = ix3 0 (j 0) (j 1) := by simp only [reshapeIdx]; rfl
  show View.ld (Val := Elt F) (e' := .f32) x (Rect.unit ![k, 0, 0] ![1, 64, 256] inb) (Shape.reshapeEquiv h j) = _
  rw [e]
  refine View.ld_unit_apply_of (Val := Elt F) (e := .f32) x _ _ inb _ _ fun a => ?_
  fin_cases a
  · exact Nat.mod_eq_of_lt hk
  · exact (Nat.zero_add _).symm
  · exact (Nat.zero_add _).symm

/-- One support's graph weights. -/
theorem load_g (x : FVec F S2x1x64 .f32) (k : ℕ) (inb : ∀ a, ![k, 0, 0] a + S1x1x64.size a ≤ S2x1x64.size a)
    (h : S1x1x64.ShapeCasts S1x64) :
    shapeCast S1x64 (View.ld (Val := Elt F) (e' := .f32) x (Rect.unit ![k, 0, 0] ![1, 1, 64] inb)) h = plane x (Fin.ofNat 2 k) := by
  funext j
  have hk : k + 1 ≤ 2 := inb 0
  have e : Shape.reshapeEquiv h j = ix3 0 (j 0) (j 1) := by
    simp only [reshapeIdx]
    exact congrArg (fun a => ix3 0 a (j 1)) (Fin.ext (by have : (j 0).val < 1 := (j 0).isLt; show 0 = (j 0).val; omega))
  show View.ld (Val := Elt F) (e' := .f32) x (Rect.unit ![k, 0, 0] ![1, 1, 64] inb) (Shape.reshapeEquiv h j) = _
  rw [e]
  refine View.ld_unit_apply_of (Val := Elt F) (e := .f32) x _ _ inb _ _ fun a => ?_
  fin_cases a
  · exact Nat.mod_eq_of_lt hk
  · exact (Nat.zero_add _).symm
  · exact (Nat.zero_add _).symm

/-- One layer's gate offsets. -/
theorem load_b (x : FVec F S3x256 .f32) (k : ℕ) (inb : ∀ a, ![k, 0] a + S1x256.size a ≤ S3x256.size a) :
    View.ld (Val := Elt F) (e' := .f32) x (Rect.unit ![k, 0] ![1, 256] inb) = rowOf x (Fin.ofNat 3 k) := by
  funext j
  have hk : k + 1 ≤ 3 := inb 0
  refine View.ld_unit_apply_of (Val := Elt F) (e := .f32) x _ _ inb _ _ fun a => ?_
  fin_cases a
  · have : (j 0).val < 1 := (j 0).isLt
    show k % 3 = k + (j 0).val
    rw [Nat.mod_eq_of_lt hk]; omega
  · exact (Nat.zero_add _).symm

/-- Half of a row of 1024 lanes. -/
theorem load_lanes (x : FVec F S1x1024 .f32) (k : ℕ) (inb : ∀ a, ![0, k] a + S1x512.size a ≤ S1x1024.size a) :
    View.ld (Val := Elt F) (e' := .f32) x (Rect.unit ![0, k] ![1, 512] inb) = lanes k (inb 1) x := by
  funext j
  refine View.ld_unit_apply_of (Val := Elt F) (e := .f32) x _ _ inb _ _ fun a => ?_
  fin_cases a
  · exact (Nat.zero_add _).symm
  · rfl

/-- The static columns. -/
theorem load_first15 (x : FVec F S512x16 .f32) (inb : ∀ a, ![0, 0] a + S512x15.size a ≤ S512x16.size a) :
    View.ld (Val := Elt F) (e' := .f32) x (Rect.unit ![0, 0] ![512, 15] inb) = first15 x := by
  funext j
  refine View.ld_unit_apply_of (Val := Elt F) (e := .f32) x _ _ inb _ _ fun a => ?_
  fin_cases a
  · exact (Nat.zero_add _).symm
  · exact (Nat.zero_add _).symm

/-- The node ids' column. -/
theorem load_last1 (x : FVec F S512x16 .f32) (inb : ∀ a, ![0, 15] a + S512x1.size a ≤ S512x16.size a) :
    View.ld (Val := Elt F) (e' := .f32) x (Rect.unit ![0, 15] ![512, 1] inb) = last1 x := by
  funext j
  refine View.ld_unit_apply_of (Val := Elt F) (e := .f32) x _ _ inb _ _ fun a => ?_
  fin_cases a
  · exact (Nat.zero_add _).symm
  · rfl

end Cert.Stgcn

end
-- ==== Proof.KernelOut.lean ====
/- What the kernel's one grid point writes, as a function of its input blocks. -/
module

public import proofs.«01_k».proof.Proof.KernelLoads
public import proofs.«01_k».proof.Proof.Gen.KernelIdeal.Value
public import Idealize.ShloMosaic.Lib.Pipeline.ValueKit.Acc
public import Idealize.ShloMosaic.Lib.Pointwise.TacticCore

@[expose] public section

set_option maxRecDepth 100000
noncomputable section

namespace Cert.Stgcn

open Cert.KernelIdeal Cert.KernelIdeal.Gen Idealize.ShloMosaic

variable {F : FTy → Type} [FloatOps F]

set_option maxHeartbeats 4000000 in
/-- What the body leaves in the output's buffer is `kOut` of the contents of its inputs' buffers. -/
theorem out_eq (c : Dev nD)
    (m0 : Memref sig .tc .vmem S12x512x200 .f32) (e0 : m0.IsWhole) (m1 : Memref sig .tc .vmem S512x16 .f32) (e1 : m1.IsWhole)
    (m2 : Memref sig .tc .vmem S200x200 .f32) (e2 : m2.IsWhole) (m3 : Memref sig .tc .vmem S2x1x64 .f32) (e3 : m3.IsWhole)
    (m4 : Memref sig .tc .vmem S1x64 .f32) (e4 : m4.IsWhole) (m5 : Memref sig .tc .vmem S3x64x256 .f32) (e5 : m5.IsWhole)
    (m6 : Memref sig .tc .vmem S3x64x256 .f32) (e6 : m6.IsWhole) (m7 : Memref sig .tc .vmem S3x256 .f32) (e7 : m7.IsWhole)
    (m8 : Memref sig .tc .vmem S64x512 .f32) (e8 : m8.IsWhole) (m9 : Memref sig .tc .vmem S1x512 .f32) (e9 : m9.IsWhole)
    (m10 : Memref sig .tc .vmem S15x512 .f32) (e10 : m10.IsWhole) (m11 : Memref sig .tc .vmem S1x512 .f32) (e11 : m11.IsWhole)
    (m12 : Memref sig .tc .vmem S1x512 .f32) (e12 : m12.IsWhole) (m13 : Memref sig .tc .vmem S1x512 .f32) (e13 : m13.IsWhole)
    (m14 : Memref sig .tc .vmem S1x1024 .f32) (e14 : m14.IsWhole) (m15 : Memref sig .tc .vmem S1x1024 .f32) (e15 : m15.IsWhole)
    (m16 : Memref sig .tc .vmem S1x1024 .f32) (e16 : m16.IsWhole) (m17 : Memref sig .tc .vmem S1x1 .f32) (e17 : m17.IsWhole)
    (m18 : Memref sig .tc .vmem S512x1 .f32) (e18 : m18.IsWhole) (m19 : Memref sig .tc .vmem S6144x64 .f32) (e19 : m19.IsWhole)
    (x0 : Vec F S12x512x200 .f32) (x1 : Vec F S512x16 .f32) (x2 : Vec F S200x200 .f32) (x3 : Vec F S2x1x64 .f32)
    (x4 : Vec F S1x64 .f32) (x5 : Vec F S3x64x256 .f32) (x6 : Vec F S3x64x256 .f32) (x7 : Vec F S3x256 .f32)
    (x8 : Vec F S64x512 .f32) (x9 : Vec F S1x512 .f32) (x10 : Vec F S15x512 .f32) (x11 : Vec F S1x512 .f32)
    (x12 : Vec F S1x512 .f32) (x13 : Vec F S1x512 .f32) (x14 : Vec F S1x1024 .f32) (x15 : Vec F S1x1024 .f32)
    (x16 : Vec F S1x1024 .f32) (x17 : Vec F S1x1 .f32) :
    out0_A_18 c m0 e0 m1 e1 m2 e2 m3 e3 m4 e4 m5 e5 m6 e6 m7 e7 m8 e8 m9 e9 m10 e10 m11 e11 m12 e12 m13 e13 m14 e14 m15 e15 m16 e16 m17 e17 m18 e18 m19 e19
      x0 x1 x2 x3 x4 x5 x6 x7 x8 x9 x10 x11 x12 x13 x14 x15 x16 x17 = kOut x0 x1 x2 x3 x4 x5 x6 x7 x8 x9 x10 x11 x12 x13 x14 x15 x16 x17 := by
  frame_open
  simp (disch := decide) only [↓ View.readCov_skip, ↓ View.readCov_cons_toLoadRect, ↓ readCov_low, ↓ readCov_high]
  frame_out
  unfold_payloads
  dsimp only
  simp only [← beside.eq_1, ← stack2.eq_1, ← above.eq_1]
  simp -index only [shapeCast_id, load_x, load_w, load_g, load_b, load_lanes, load_first15, load_last1, ← gateScale.eq_1, ← oneHot.eq_1]
  simp only [← adjRows.eq_1, ← wRep.eq_1, ← gcn.eq_1, ← halfScale.eq_1, ← scaled.eq_1, ← zK.eq_1, ← cK.eq_1, ← hK.eq_1,
    ← colMean.eq_1, ← lessRow.eq_1, ← bnK.eq_1, ← leakyK.eq_1, ← featK.eq_1, ← staticK.eq_1, ← rowDot.eq_1, ← sigK.eq_1, ← headK.eq_1]
  simp only [kOut, hidK, lstmK, layerK, seqK, wAt, bAt]
  rfl

/-- What the grid point leaves in the output's buffer. -/
theorem outs_eq (m : (ℓ : Loc nD τ sig) → Buf (Elt F) ℓ) (c : Dev nD) (t : Fin cfg0.N) :
    outsAt0 m c t = kOut (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (iblk m c 13 t) (iblk m c 14 t) (iblk m c 15 t) (iblk m c 16 t) (iblk m c 17 t) :=
  out_eq c _ _ _ _ _ _ _ _ _ _ _ _ _ _ _ _ _ _ _ _ _ _ _ _ _ _ _ _ _ _ _ _ _ _ _ _ _ _ _ _ _ _ _ _ _ _ _ _ _ _ _ _ _ _ _ _ _ _

end Cert.Stgcn

end
-- ==== Proof.Scalars.lean ====
/- Facts about single extended reals that the value proofs share: scaling a sum, the two forms of the logistic function, the two forms of a normalised value, the literals, and a node index read from a float. -/
module

public import Idealize.ShloMosaic.Lib.IdealHost

@[expose] public section

noncomputable section

namespace Cert.Stgcn

open Idealize.ShloMosaic

/-! ### Scaling sums -/

/-- A nonnegative real factor distributes over a sum of two extended reals. -/
theorem add_scale (a b : EReal) {g : ℝ} (hg : 0 ≤ g) : (a + b) * (g : EReal) = a * g + b * g :=
  EReal.right_distrib_of_nonneg_of_ne_top (by exact_mod_cast hg) (EReal.coe_ne_top g) a b

/-- A nonnegative real factor distributes over a finite sum of extended reals. -/
theorem sum_scale {ι : Type} (s : Finset ι) (f : ι → EReal) {g : ℝ} (hg : 0 ≤ g) :
    (∑ i ∈ s, f i) * (g : EReal) = ∑ i ∈ s, f i * g := by
  classical
  induction s using Finset.induction_on with
  | empty => simp
  | insert a s ha ih => rw [Finset.sum_insert ha, Finset.sum_insert ha, add_scale _ _ hg, ih]

/-- A real times a sum of products of reals, all read as extended reals, is the sum of the triple products. -/
theorem sum_mul_reals {ι : Type} (s : Finset ι) (f : ι → ℝ) (w : ℝ) :
    (∑ i ∈ s, (f i : EReal)) * (w : EReal) = ∑ i ∈ s, (f i : EReal) * (w : EReal) := by
  have h : ∀ g : ι → ℝ, ∑ i ∈ s, (g i : EReal) = ((∑ i ∈ s, g i : ℝ) : EReal) := fun g => by
    classical
    induction s using Finset.induction_on with
    | empty => simp
    | insert a s ha ih => rw [Finset.sum_insert ha, Finset.sum_insert ha, ih, EReal.coe_add]
  have e : ∀ i, (f i : EReal) * (w : EReal) = ((f i * w : ℝ) : EReal) := fun i => (EReal.coe_mul _ _).symm
  rw [h, Finset.sum_congr rfl (fun i _ => e i), h, ← EReal.coe_mul, Finset.sum_mul]

/-! ### The two activation functions -/

/-- The hyperbolic tangent of an extended real: always a real. -/
def thR (z : EReal) : ℝ := (Ideal.tanh z).toReal

/-- The logistic function of an extended real: always a real. -/
def sgR (z : EReal) : ℝ := (thR (z * ((1 / 2 : ℝ) : EReal)) + 1) / 2

theorem tanh_eq (z : EReal) : Ideal.tanh z = (thR z : EReal) := by
  induction z with
  | bot => simp [thR]
  | top => simp [thR]
  | coe r => simp [thR]

theorem thR_coe (r : ℝ) : thR (r : EReal) = Real.tanh r := by simp [thR]

theorem thR_half (z : EReal) : thR (z * ((1 / 2 : ℝ) : EReal)) = 2 * sgR z - 1 := by
  simp only [sgR]; ring

/-- The real logistic function in its two forms. -/
theorem logistic_real (r : ℝ) : (1 + Real.exp (-r))⁻¹ = (Real.tanh (r * (1 / 2)) + 1) / 2 := by
  have h : Real.exp (-r) = (Real.exp (r * (1 / 2)))⁻¹ * (Real.exp (r * (1 / 2)))⁻¹ := by
    rw [← Real.exp_neg, ← Real.exp_add]; congr 1; ring
  have hp := Real.exp_pos (r * (1 / 2))
  rw [Real.tanh_eq_sinh_div_cosh, Real.sinh_eq, Real.cosh_eq, h, Real.exp_neg]
  generalize Real.exp (r * (1 / 2)) = a at hp
  have ha : a ≠ 0 := hp.ne'
  field_simp
  ring

theorem logistic_eq (z : EReal) : Ideal.div 1 (1 + Ideal.exp (-z)) = (sgR z : EReal) := by
  change Ideal.logistic z = _
  induction z with
  | bot =>
    have h : (⊥ : EReal) * ((1 / 2 : ℝ) : EReal) = ⊥ := EReal.bot_mul_coe_of_pos (by norm_num)
    simp only [sgR, h, thR, Ideal.tanh_bot, Ideal.logistic_bot]
    norm_num
  | top =>
    have h : (⊤ : EReal) * ((1 / 2 : ℝ) : EReal) = ⊤ := EReal.top_mul_coe_of_pos (by norm_num)
    simp only [sgR, h, thR, Ideal.tanh_top, Ideal.logistic_top]
    norm_num
  | coe r =>
    rw [Ideal.logistic_coe, logistic_real, sgR, ← EReal.coe_mul, thR_coe]

/-- One update of the cell state: the kernel's form in hyperbolic tangents is the logistic one. -/
theorem cell_forms (zf zi zg : EReal) (c : ℝ) :
    ((1 / 2 : ℝ) : EReal) * ((thR (zf * ((1 / 2 : ℝ) : EReal)) : EReal) * c + c
        + (thR (zi * ((1 / 2 : ℝ) : EReal)) : EReal) * (thR zg : EReal) + (thR zg : EReal))
      = ((sgR zf * c + sgR zi * thR zg : ℝ) : EReal) := by
  rw [thR_half, thR_half]
  norm_cast
  ring

/-- One update of the hidden state: the kernel keeps it doubled. -/
theorem hid_forms (zo : EReal) (t : ℝ) :
    (thR (zo * ((1 / 2 : ℝ) : EReal)) : EReal) * (t : EReal) + t = ((2 * (sgR zo * t) : ℝ) : EReal) := by
  rw [thR_half]
  norm_cast
  ring

/-! ### Normalisation -/

theorem sq_nonneg' (x : EReal) : 0 ≤ x * x := by
  induction x with
  | bot => simp
  | top => simp
  | coe r => exact_mod_cast mul_self_nonneg r

/-- Multiplying by the reciprocal root is dividing by the root, for a positive radicand. -/
theorem mul_rsqrt (x v : EReal) {e : ℝ} (hv : 0 ≤ v) (he : 0 < e) :
    x * Ideal.rsqrt (v + e) = Ideal.div x (Ideal.sqrt (v + e)) := by
  induction v with
  | bot => simp at hv
  | top => simp [Ideal.div]
  | coe r =>
    have hr : 0 ≤ r := by exact_mod_cast hv
    have hp : 0 < r + e := by linarith
    have hs : Real.sqrt (r + e) ≠ 0 := (Real.sqrt_pos.2 hp).ne'
    rw [← EReal.coe_add, Ideal.rsqrt_coe, Ideal.sqrt_coe, if_neg (not_lt.2 hp.le), if_neg hp.ne', if_neg (not_lt.2 hp.le),
      Ideal.div_coe hs, one_div]

/-! ### Literals -/

theorem lit_half : Ideal.ofBits .f32 0x3F000000#32 = ((1 / 2 : ℝ) : EReal) := by
  simp [Ideal.ofBits, Ideal.ieee]; norm_cast; norm_num

theorem lit_512 : Ideal.ofBits .f32 0x44000000#32 = ((512 : ℝ) : EReal) := by
  simp [Ideal.ofBits, Ideal.ieee]; norm_cast; norm_num

/-- The normalisation's small offset is a positive real. -/
theorem lit_eps : ∃ e : ℝ, 0 < e ∧ Ideal.ofBits .f32 0x3727C5AC#32 = (e : EReal) := by
  refine ⟨_, ?_, by simp [Ideal.ofBits, Ideal.ieee]; rfl⟩
  positivity

/-! ### Node indices -/

/-- The node a float names. -/
def nodeOf (x : EReal) : Fin 200 := Fin.ofNat 200 (Ideal.fptosi 32 x).toNat

theorem fptosi_node {x : EReal} (h0 : 0 ≤ x) (h1 : x < ((200 : ℝ) : EReal)) :
    Ideal.fptosi 32 x = BitVec.ofNat 32 (nodeOf x).val := by
  have key : (Ideal.fptosi 32 x).toNat < 200 := by
    induction x with
    | bot => simp at h0
    | top => simp at h1
    | coe r =>
      have hr0 : 0 ≤ r := by exact_mod_cast h0
      have hr1 : r < 200 := by exact_mod_cast h1
      have a : 0 ≤ ⌊r⌋ := Int.floor_nonneg.2 hr0
      have b : ⌊r⌋ < 200 := Int.floor_lt.2 (by exact_mod_cast hr1)
      have e : Ideal.fptosi 32 (r : EReal) = BitVec.ofInt 32 ⌊r⌋ := by
        rw [Ideal.fptosi, Ideal.toIntClamped_coe, if_pos hr0]
        congr 1
        omega
      rw [e, BitVec.toNat_ofInt]
      omega
  apply BitVec.eq_of_toNat_eq
  rw [nodeOf, BitVec.toNat_ofNat]
  simp only [Fin.val_ofNat]
  omega

end Cert.Stgcn

end
-- ==== Proof.Model.lean ====
/- The network on one sample's row, over the extended reals: one graph feature, one recurrent layer, the three layers, and the normalised head. Both programs are shown to compute it. -/
module

public import proofs.«01_k».proof.Proof.Scalars

@[expose] public section

noncomputable section

namespace Cert.Stgcn

open Idealize.ShloMosaic

/-- An extended real that is a real. -/
def IsReal (x : EReal) : Prop := ∃ r : ℝ, x = (r : EReal)

/-- Lane `k` of gate `g` among the 256 lanes. -/
def lane (g : Fin 4) (k : Fin 64) : Fin 256 := ⟨64 * g.val + k.val, by omega⟩

/-- The graph convolution of one sample at one node: `s` the node's signal, `a` its row of the graph matrix, `x` all signals. -/
def graphM (w0 w1 bg : Fin 64 → EReal) (s : EReal) (a x : Fin 200 → EReal) (k : Fin 64) : EReal :=
  max (s * w0 k + (∑ m, a m * x m) * w1 k + bg k) 0

/-- The gates of one step before their nonlinearities. -/
def gatesM (wx wh : Fin 64 → Fin 256 → EReal) (b : Fin 256 → EReal) (x : Fin 64 → EReal) (h : Fin 64 → ℝ) (j : Fin 256) : EReal :=
  (∑ k, x k * wx k j) + (∑ k, (h k : EReal) * wh k j) + b j

/-- The new cell state. -/
def cellM (z : Fin 256 → EReal) (c : Fin 64 → ℝ) (k : Fin 64) : ℝ :=
  sgR (z (lane 1 k)) * c k + sgR (z (lane 0 k)) * thR (z (lane 2 k))

/-- The new hidden state from the gates and the new cell state. -/
def hidM (z : Fin 256 → EReal) (c : Fin 64 → ℝ) (k : Fin 64) : ℝ := sgR (z (lane 3 k)) * Real.tanh (c k)

/-- A layer's cell and hidden state after `t` steps over the inputs `x`. -/
def layerM (wx wh : Fin 64 → Fin 256 → EReal) (b : Fin 256 → EReal) (x : ℕ → Fin 64 → EReal) : ℕ → (Fin 64 → ℝ) × (Fin 64 → ℝ)
  | 0 => (fun _ => 0, fun _ => 0)
  | t + 1 =>
    let z := gatesM wx wh b (x t) (layerM wx wh b x t).2
    (cellM z (layerM wx wh b x t).1, hidM z (cellM z (layerM wx wh b x t).1))

/-- What a layer hands to the next one at each step: its hidden state after that step. -/
def feedM (l : ℕ → (Fin 64 → ℝ) × (Fin 64 → ℝ)) (t : ℕ) (k : Fin 64) : EReal := ((l (t + 1)).2 k : EReal)

/-- Layer `n` of the stack: cell and hidden state after `t` steps. -/
def stackM (wx wh : ℕ → Fin 64 → Fin 256 → EReal) (b : ℕ → Fin 256 → EReal) (x : ℕ → Fin 64 → EReal) :
    ℕ → ℕ → (Fin 64 → ℝ) × (Fin 64 → ℝ)
  | 0 => layerM (wx 0) (wh 0) (b 0) x
  | n + 1 => layerM (wx (n + 1)) (wh (n + 1)) (b (n + 1)) (feedM (stackM wx wh b x n))

/-- The recurrent feature of one sample from its last hidden state. -/
def featM (h : Fin 64 → ℝ) (w : Fin 64 → EReal) (b : EReal) : EReal := (∑ k, (h k : EReal) * w k) + b

/-- The mean of a column over the samples. -/
def meanM (h : Fin 512 → EReal) : EReal := Ideal.div (∑ i, h i) ((512 : ℝ) : EReal)

/-- Batch normalisation of a column, read at a sample. -/
def bnM (g be : EReal) (h : Fin 512 → EReal) (i : Fin 512) : EReal :=
  Ideal.div (g * (h i - meanM h))
    (Ideal.sqrt (meanM (fun i => (h i - meanM h) * (h i - meanM h)) + Ideal.ofBits .f32 0x3727C5AC#32)) + be

/-- The leaky rectifier. -/
def leakyM (x : EReal) : EReal := if 0 ≤ x then x else Ideal.ofBits .f32 0x3C23D70A#32 * x

/-- Column `k` of the first half of 1024. -/
def loCol (k : Fin 512) : Fin 1024 := ⟨k.val, by omega⟩

/-- Column `k` of the second half of 1024. -/
def hiCol (k : Fin 512) : Fin 1024 := ⟨512 + k.val, by omega⟩

/-- The static features of every sample: a dense layer, normalised and rectified. -/
def staticM (x : Fin 512 → Fin 15 → EReal) (w : Fin 15 → Fin 512 → EReal) (b g be : Fin 512 → EReal) (i k : Fin 512) : EReal :=
  leakyM (bnM (g k) (be k) (fun i => (∑ p, x i p * w p k) + b k) i)

/-- The network's output at a sample from the two groups of features `a` and `f`. -/
def outM (a f : Fin 512 → Fin 512 → EReal) (g be w : Fin 1024 → EReal) (b1 : EReal) (i : Fin 512) : EReal :=
  (sgR ((∑ k, bnM (g (loCol k)) (be (loCol k)) (fun i => a i k) i * w (loCol k))
    + (∑ k, bnM (g (hiCol k)) (be (hiCol k)) (fun i => f i k) i * w (hiCol k)) + b1) : EReal)

/-- The mean of a column of nonnegative values is nonnegative. -/
theorem meanM_nonneg {h : Fin 512 → EReal} (hh : ∀ i, 0 ≤ h i) : 0 ≤ meanM h := by
  rw [meanM, Ideal.div_coe (by norm_num)]
  exact mul_nonneg (Finset.sum_nonneg fun i _ => hh i) (by exact_mod_cast (by norm_num : (0 : ℝ) ≤ 1 / 512))

/-- The normalisation with the reciprocal root. -/
theorem bnM_rsqrt (g be : EReal) (h : Fin 512 → EReal) (i : Fin 512) :
    g * (h i - meanM h)
        * Ideal.rsqrt (meanM (fun i => (h i - meanM h) * (h i - meanM h)) + Ideal.ofBits .f32 0x3727C5AC#32) + be
      = bnM g be h i := by
  obtain ⟨e, he, h1⟩ := lit_eps
  rw [bnM, h1, mul_rsqrt _ _ (meanM_nonneg fun i => sq_nonneg' _) he]

end Cert.Stgcn

end
-- ==== Proof.KernelRow.lean ====
/- The kernel's recurrent layers at the ideal values, read at one row: every layer's cell state is the model's and its hidden state is twice the model's. -/
module

public import proofs.«01_k».proof.Proof.KernelSteps
public import proofs.«01_k».proof.Proof.Model

@[expose] public section

noncomputable section

namespace Cert.Stgcn

open Cert.KernelIdeal Cert.KernelIdeal.Gen Idealize.ShloMosaic

/-- The lane scale as a real. -/
def gs (j : Fin 256) : ℝ := if j.val < 128 ∨ 192 ≤ j.val then 1 / 2 else 1

theorem gs_nonneg (j : Fin 256) : 0 ≤ gs j := by
  unfold gs; split <;> norm_num

theorem gs_lane (k : Fin 64) : gs (lane 0 k) = 1 / 2 ∧ gs (lane 1 k) = 1 / 2 ∧ gs (lane 2 k) = 1 ∧ gs (lane 3 k) = 1 / 2 := by
  have := k.isLt
  refine ⟨if_pos ?_, if_pos ?_, if_neg ?_, if_pos ?_⟩ <;> simp only [lane] <;> simp <;> omega

theorem gateScale_at (j : Fin 256) : gateScale (F := Ideal) (ix2 0 j) = (gs j : EReal) := by
  pointwise [gateScale]
  have key : ∀ j : Fin 256, IntOp.ori (IntOp.cmpi .slt (BitVec.ofNat 32 j.val) 128#32) (IntOp.cmpi .sge (BitVec.ofNat 32 j.val) 192#32)
      = if j.val < 128 ∨ 192 ≤ j.val then 1#1 else 0#1 := by decide
  rw [key, lit_half, gs]
  split <;> simp [Scalar.select]

theorem halfScale_at (j : Fin 256) : halfScale (F := Ideal) (ix2 0 j) = ((1 / 2 * gs j : ℝ) : EReal) := by
  rw [EReal.coe_mul, ← gateScale_at, ← lit_half]
  pointwise [halfScale]

theorem beside_left (x h : FVec Ideal S256x64 .f32) (r : Fin 256) (k : Fin 64) :
    beside x h (ix2 r (Fin.castAdd 64 k)) = x (ix2 r k) := by
  pointwise [beside]
  rw [dif_pos (show (Fin.castAdd 64 k).val < 64 from k.isLt)]
  rfl

theorem beside_right (x h : FVec Ideal S256x64 .f32) (r : Fin 256) (k : Fin 64) :
    beside x h (ix2 r (Fin.natAdd 64 k)) = h (ix2 r k) := by
  pointwise [beside]
  rw [dif_neg (show ¬ (Fin.natAdd 64 k).val < 64 by simp)]
  congr 2
  apply Fin.ext; simp

theorem stack2_top (a b : FVec Ideal S64x256 .f32) (k : Fin 64) (j : Fin 256) :
    stack2 a b (ix2 (Fin.castAdd 64 k) j) = a (ix2 k j) := by
  pointwise [stack2]
  rw [dif_pos (show (Fin.castAdd 64 k).val < 64 from k.isLt)]
  rfl

theorem stack2_bottom (a b : FVec Ideal S64x256 .f32) (k : Fin 64) (j : Fin 256) :
    stack2 a b (ix2 (Fin.natAdd 64 k) j) = b (ix2 k j) := by
  pointwise [stack2]
  rw [dif_neg (show ¬ (Fin.natAdd 64 k).val < 64 by simp)]
  congr 2
  apply Fin.ext; simp

theorem scaled_at (w : FVec Ideal S64x256 .f32) (g : FVec Ideal S1x256 .f32) (k : Fin 64) (j : Fin 256) :
    scaled w g (ix2 k j) = w (ix2 k j) * g (ix2 0 j) := by
  pointwise [scaled]

/-- The gates of one row: the model's, scaled lane by lane. -/
theorem zK_at (wx wh : FVec Ideal S64x256 .f32) (gx : FVec Ideal S1x256 .f32) (b : FVec Ideal S1x256 .f32)
    (x h : FVec Ideal S256x64 .f32) (r : Fin 256) (xv : Fin 64 → EReal) (hv : Fin 64 → ℝ)
    (hx : ∀ k j, x (ix2 r k) * gx (ix2 0 j) = xv k * (gs j : EReal))
    (hh : ∀ k, h (ix2 r k) = ((2 * hv k : ℝ) : EReal)) (j : Fin 256) :
    zK (stack2 (scaled wx gx) (scaled wh halfScale)) (mulf b gateScale) x h (ix2 r j)
      = gatesM (fun k j => wx (ix2 k j)) (fun k j => wh (ix2 k j)) (fun j => b (ix2 0 j)) xv hv j * (gs j : EReal) := by
  pointwise [zK]
  rw [show (∑ k : Fin 128, beside x h (ix2 r k) * stack2 (scaled wx gx) (scaled wh halfScale) (ix2 k j)) = _ from
    Fin.sum_univ_add (a := 64) (b := 64) _]
  simp only [beside_left, beside_right, stack2_top, stack2_bottom, scaled_at, gateScale_at, halfScale_at, hh]
  rw [gatesM, add_scale _ _ (gs_nonneg j), add_scale _ _ (gs_nonneg j), sum_scale _ _ (gs_nonneg j), sum_scale _ _ (gs_nonneg j)]
  congr 2
  · refine Finset.sum_congr rfl fun k _ => ?_
    rw [mul_comm (wx _), ← mul_assoc, hx]
    ac_rfl
  · refine Finset.sum_congr rfl fun k _ => ?_
    rw [mul_comm (wh _), ← mul_assoc, ← EReal.coe_mul, mul_comm ((hv k : EReal) * _), ← mul_assoc (gs j : EReal), ← EReal.coe_mul]
    congr 2
    ring

theorem cK_at (z : FVec Ideal S256x256 .f32) (c : FVec Ideal S256x64 .f32) (r : Fin 256) (zv : Fin 256 → EReal) (cv : Fin 64 → ℝ)
    (hz : ∀ j, z (ix2 r j) = zv j * (gs j : EReal)) (hc : ∀ k, c (ix2 r k) = (cv k : EReal)) (k : Fin 64) :
    cK z c (ix2 r k) = (cellM zv cv k : EReal) := by
  obtain ⟨g0, g1, g2, -⟩ := gs_lane k
  have h0 := hz (lane 0 k)
  have h1 := hz (lane 1 k)
  have h2 := hz (lane 2 k)
  rw [g0] at h0; rw [g1] at h1; rw [g2, EReal.coe_one, mul_one] at h2
  rw [cellM, ← cell_forms, ← h0, ← h1, ← hc, ← tanh_eq, ← tanh_eq, ← tanh_eq, ← h2]
  pointwise [cK]
  rw [lit_half]
  simp only [lane]
  congr 7 <;> (try congr 3) <;> simp

theorem hK_at (z : FVec Ideal S256x256 .f32) (c : FVec Ideal S256x64 .f32) (r : Fin 256) (zv : Fin 256 → EReal) (cv : Fin 64 → ℝ)
    (hz : ∀ j, z (ix2 r j) = zv j * (gs j : EReal)) (hc : ∀ k, c (ix2 r k) = (cv k : EReal)) (k : Fin 64) :
    hK z c (ix2 r k) = ((2 * hidM zv cv k : ℝ) : EReal) := by
  have h3 := hz (lane 3 k)
  rw [(gs_lane k).2.2.2] at h3
  rw [hidM, ← hid_forms, ← h3, ← tanh_eq, ← Ideal.tanh_coe, ← hc]
  pointwise [hK]
  rfl

/-- A layer read at one row. -/
theorem layerK_at (wx wh : FVec Ideal S64x256 .f32) (gx b : FVec Ideal S1x256 .f32) (x : ℕ → FVec Ideal S256x64 .f32) (r : Fin 256)
    (xv : ℕ → Fin 64 → EReal) (hx : ∀ t k j, x t (ix2 r k) * gx (ix2 0 j) = xv t k * (gs j : EReal)) (t : ℕ) :
    (∀ k, (layerK (stack2 (scaled wx gx) (scaled wh halfScale)) (mulf b gateScale) x t).1 (ix2 r k)
        = ((layerM (fun k j => wx (ix2 k j)) (fun k j => wh (ix2 k j)) (fun j => b (ix2 0 j)) xv t).1 k : EReal))
      ∧ ∀ k, (layerK (stack2 (scaled wx gx) (scaled wh halfScale)) (mulf b gateScale) x t).2 (ix2 r k)
        = ((2 * (layerM (fun k j => wx (ix2 k j)) (fun k j => wh (ix2 k j)) (fun j => b (ix2 0 j)) xv t).2 k : ℝ) : EReal) := by
  induction t with
  | zero =>
    refine ⟨fun k => ?_, fun k => ?_⟩ <;> simp only [layerK, layerM]
    · pointwise
      simp
    · pointwise
      simp
  | succ t ih =>
    obtain ⟨ic, ih⟩ := ih
    have hz := zK_at wx wh gx b (x t) _ r (xv t) _ (hx t) ih
    have hc := cK_at _ _ r _ _ hz ic
    exact ⟨hc, hK_at _ _ r _ _ hz hc⟩

/-- The inputs of the layers above the first: doubled, against scales halved once more. -/
theorem doubled_scaled {h : FVec Ideal S256x64 .f32} {r : Fin 256} {k : Fin 64} {v : ℝ} (e : h (ix2 r k) = ((2 * v : ℝ) : EReal)) (j : Fin 256) :
    h (ix2 r k) * halfScale (F := Ideal) (ix2 0 j) = (v : EReal) * (gs j : EReal) := by
  rw [e, halfScale_at, ← EReal.coe_mul, ← EReal.coe_mul]
  congr 1
  ring

/-- The three layers of one half of the batch, read at one row. -/
theorem hidK_at (s : ℕ → FVec Ideal S512x64 .f32) (x5 x6 : FVec Ideal S3x64x256 .f32) (x7 : FVec Ideal S3x256 .f32) (o : ℕ)
    (ho : o + 256 ≤ 512) (r : Fin 256) (k : Fin 64) :
    hidK s x5 x6 x7 o ho (ix2 r k)
      = ((2 * (stackM (fun l k j => x5 (ix3 (Fin.ofNat 3 l) k j)) (fun l k j => x6 (ix3 (Fin.ofNat 3 l) k j))
          (fun l j => x7 (ix2 (Fin.ofNat 3 l) j)) (fun t k => s t (ix2 ⟨o + r.val, by omega⟩ k)) 2 12).2 k : ℝ) : EReal) := by
  have l0 := layerK_at (plane x5 (Fin.ofNat 3 0)) (plane x6 (Fin.ofNat 3 0)) gateScale (rowOf x7 (Fin.ofNat 3 0)) (fun t => half o ho (s t)) r
    (fun t k => s t (ix2 ⟨o + r.val, by omega⟩ k)) (fun t k j => by rw [gateScale_at]; rfl)
  have l1 := layerK_at (plane x5 (Fin.ofNat 3 1)) (plane x6 (Fin.ofNat 3 1)) halfScale (rowOf x7 (Fin.ofNat 3 1)) _ r _
    (fun t k j => doubled_scaled ((l0 (t + 1)).2 k) j)
  have l2 := layerK_at (plane x5 (Fin.ofNat 3 2)) (plane x6 (Fin.ofNat 3 2)) halfScale (rowOf x7 (Fin.ofNat 3 2)) _ r _
    (fun t k j => doubled_scaled ((l1 (t + 1)).2 k) j)
  exact (l2 12).2 k

end Cert.Stgcn

end
-- ==== Proof.KernelTail.lean ====
/- The kernel's graph convolution and dense tail at the ideal values, read at an index, and the whole body's output at a sample in the model's terms. -/
module

public import proofs.«01_k».proof.Proof.KernelRow

@[expose] public section

noncomputable section

namespace Cert.Stgcn

open Cert.KernelIdeal Cert.KernelIdeal.Gen Idealize.ShloMosaic

theorem oneHot_at (s : FVec Ideal S512x1 .f32) (r : Fin 512) (m : Fin 200)
    (h : Ideal.fptosi 32 (s (ix2 r 0)) = BitVec.ofNat 32 (nodeOf (s (ix2 r 0))).val) :
    oneHot s (ix2 r m) = if m = nodeOf (s (ix2 r 0)) then 1 else 0 := by
  pointwise [oneHot]
  change FloatOps.sitofp FTy.f32 (BitVec.setWidth 32 (IntOp.cmpi .eq (BitVec.ofNat 32 m.val) (Ideal.fptosi 32 (s (ix2 r 0))))) = _
  rw [h]
  generalize nodeOf (s (ix2 r 0)) = n
  have key : IntOp.cmpi .eq (BitVec.ofNat 32 m.val) (BitVec.ofNat 32 n.val) = if m = n then 1#1 else 0#1 := by
    have e : BitVec.ofNat 32 m.val = BitVec.ofNat 32 n.val ↔ m = n := by
      rw [← BitVec.toNat_inj, BitVec.toNat_ofNat, BitVec.toNat_ofNat, Fin.ext_iff]
      omega
    by_cases hm : m = n
    · simp [IntOp.cmpi, hm]
    · have hb := beq_eq_false_iff_ne.2 fun c => hm (e.1 c)
      simp only [IntOp.cmpi, hm, hb, if_false]
      rfl
  rw [key]
  change (((BitVec.setWidth 32 _ : BitVec 32).toInt : ℝ) : EReal) = _
  split <;> simp

theorem adjRows_at (s : FVec Ideal S512x1 .f32) (a : FVec Ideal S200x200 .f32) (r : Fin 512) (m : Fin 200)
    (h : Ideal.fptosi 32 (s (ix2 r 0)) = BitVec.ofNat 32 (nodeOf (s (ix2 r 0))).val) :
    adjRows s a (ix2 r m) = a (ix2 (nodeOf (s (ix2 r 0))) m) := by
  pointwise [adjRows]
  simp only [oneHot_at s r _ h]
  rw [Finset.sum_eq_single (nodeOf (s (ix2 r 0)))]
  · simp
  · intro b _ hb; simp [hb]
  · simp

theorem wRep_at (w : FVec Ideal S1x64 .f32) (m : Fin 200) (k : Fin 64) : wRep w (ix2 m k) = w (ix2 0 k) := by
  pointwise [wRep]

theorem gcn_at (s : FVec Ideal S512x1 .f32) (a : FVec Ideal S200x200 .f32) (w0 w1 bg : FVec Ideal S1x64 .f32)
    (x : FVec Ideal S512x200 .f32) (r : Fin 512) (k : Fin 64)
    (h : Ideal.fptosi 32 (s (ix2 r 0)) = BitVec.ofNat 32 (nodeOf (s (ix2 r 0))).val)
    (hx : ∀ m, IsReal (x (ix2 r m))) (ha : ∀ n m, IsReal (a (ix2 n m))) (hw : ∀ k, IsReal (w1 (ix2 0 k))) :
    gcn (oneHot s) (adjRows s a) (wRep w0) (wRep w1) bg x (ix2 r k)
      = graphM (fun k => w0 (ix2 0 k)) (fun k => w1 (ix2 0 k)) (fun k => bg (ix2 0 k))
          (x (ix2 r (nodeOf (s (ix2 r 0))))) (fun m => a (ix2 (nodeOf (s (ix2 r 0))) m)) (fun m => x (ix2 r m)) k := by
  pointwise [gcn]
  simp only [oneHot_at s r _ h, adjRows_at s a r _ h, wRep_at]
  rw [graphM]
  congr 3
  · rw [Finset.sum_eq_single (nodeOf (s (ix2 r 0)))]
    · simp
    · intro b _ hb; simp [hb]
    · simp
  · obtain ⟨w, hw⟩ := hw k
    choose xv hxv using hx
    choose av hav using ha (nodeOf (s (ix2 r 0)))
    simp only [hw, hxv, hav, ← EReal.coe_mul]
    rw [sum_mul_reals]
    simp only [← EReal.coe_mul]

theorem colMean_at (h : FVec Ideal S512x512 .f32) (k : Fin 512) : colMean h (ix2 0 k) = meanM (fun i => h (ix2 i k)) := by
  pointwise [colMean]
  rw [lit_512, meanM]

theorem bnK_at (g be : FVec Ideal S1x512 .f32) (h : FVec Ideal S512x512 .f32) (r k : Fin 512) :
    bnK g be h (ix2 r k) = bnM (g (ix2 0 k)) (be (ix2 0 k)) (fun i => h (ix2 i k)) r := by
  rw [← bnM_rsqrt]
  simp only [meanM, ← lit_512]
  pointwise [bnK, lessRow, colMean]

theorem staticK_at (x : FVec Ideal S512x15 .f32) (w : FVec Ideal S15x512 .f32) (b : FVec Ideal S1x512 .f32) (r k : Fin 512) :
    staticK x w b (ix2 r k) = (∑ p, x (ix2 r p) * w (ix2 p k)) + b (ix2 0 k) := by
  pointwise [staticK]

theorem leakyK_at (h : FVec Ideal S512x512 .f32) (r k : Fin 512) : leakyK h (ix2 r k) = leakyM (h (ix2 r k)) := by
  pointwise [leakyK]
  rfl

theorem sigK_at (y : FVec Ideal S512x1 .f32) (r : Fin 512) : sigK y (ix2 r 0) = (sgR (y (ix2 r 0)) : EReal) := by
  pointwise [sigK]
  rw [lit_half, mul_comm _ (y _), tanh_eq, thR_half]
  norm_cast
  ring

theorem rowDot_at (h : FVec Ideal S512x512 .f32) (w : FVec Ideal S1x512 .f32) (r : Fin 512) :
    rowDot h w (ix2 r 0) = ∑ k, h (ix2 r k) * w (ix2 0 k) := by
  pointwise [rowDot]

theorem headK_at (a b : FVec Ideal S512x512 .f32) (g be w : FVec Ideal S1x1024 .f32) (b1 : FVec Ideal S1x1 .f32) (r : Fin 512) :
    headK a b (lanes 0 (by decide) g) (lanes 0 (by decide) be) (lanes 512 (by decide) g) (lanes 512 (by decide) be)
        (lanes 0 (by decide) w) (lanes 512 (by decide) w) b1 (ix2 r 0)
      = outM (fun i k => a (ix2 i k)) (fun i k => b (ix2 i k)) (fun k => g (ix2 0 k)) (fun k => be (ix2 0 k)) (fun k => w (ix2 0 k))
          (b1 (ix2 0 0)) r := by
  have lo : ∀ (x : FVec Ideal S1x1024 .f32) (k : Fin 512), lanes 0 (by decide) x (ix2 0 k) = x (ix2 0 (loCol k)) := fun x k => by
    simp only [lanes, loCol]
    congr 2
    apply Fin.ext; simp
  have hi : ∀ (x : FVec Ideal S1x1024 .f32) (k : Fin 512), lanes 512 (by decide) x (ix2 0 k) = x (ix2 0 (hiCol k)) := fun x k => rfl
  rw [headK, sigK_at, outM]
  pointwise
  simp only [rowDot_at, bnK_at, lo, hi]

/-- The recurrent features of one sample. -/
theorem featK_at (ha hb : FVec Ideal S256x64 .f32) (w : FVec Ideal S64x512 .f32) (b : FVec Ideal S1x512 .f32)
    (hv : Fin 512 → Fin 64 → ℝ) (ea : ∀ (r : Fin 256) k, ha (ix2 r k) = ((2 * hv ⟨0 + r.val, by omega⟩ k : ℝ) : EReal))
    (eb : ∀ (r : Fin 256) k, hb (ix2 r k) = ((2 * hv ⟨256 + r.val, by omega⟩ k : ℝ) : EReal)) (r k : Fin 512) :
    featK ha hb w b (ix2 r k) = featM (hv r) (fun p => w (ix2 p k)) (b (ix2 0 k)) := by
  have un : ∀ (v : ℝ) (c : EReal), ((2 * v : ℝ) : EReal) * (c * ((1 / 2 : ℝ) : EReal)) = (v : EReal) * c := fun v c => by
    rw [mul_comm c, ← mul_assoc, ← EReal.coe_mul]
    congr 2
    ring
  pointwise [featK, above]
  rw [featM]
  congr 1
  split
  · next hr =>
    pointwise
    simp only [ea, lit_half, un]
    refine Finset.sum_congr rfl fun p _ => ?_
    congr 3
    apply Fin.ext; simp
  · next hr =>
    pointwise
    simp only [eb, lit_half, un]
    refine Finset.sum_congr rfl fun p _ => ?_
    congr 3
    apply Fin.ext; simp; omega

end Cert.Stgcn

end
-- ==== Proof.Net.lean ====
/- The network's output at a sample as a function of the seventeen arguments. -/
module

public import proofs.«01_k».proof.Proof.Model
public import Idealize.ShloMosaic.Lib.Pointwise

@[expose] public section

noncomputable section

namespace Cert.Stgcn

open Idealize.ShloMosaic Idealize.ShloMosaic.TcCoe

/-- A column of the signals: node `n` at time step `t`. -/
def sigCol (t : Fin 12) (n : Fin 200) : Fin 2416 := ⟨t.val * 200 + n.val, by omega⟩

/-- A column of the static features. -/
def featCol (p : Fin 15) : Fin 2416 := ⟨2400 + p.val, by omega⟩

/-- The column that holds a sample's node. -/
def nodeCol : Fin 2416 := ⟨2415, by decide⟩

/-- The seventeen arguments. -/
structure Args where
  x : FVec Ideal ⟨2, ![512, 2416]⟩ .f32
  cheb : FVec Ideal ⟨3, ![2, 200, 200]⟩ .f32
  wg : FVec Ideal ⟨3, ![2, 1, 64]⟩ .f32
  bg : FVec Ideal ⟨1, ![64]⟩ .f32
  wx : FVec Ideal ⟨3, ![3, 64, 256]⟩ .f32
  wh : FVec Ideal ⟨3, ![3, 64, 256]⟩ .f32
  bl : FVec Ideal ⟨2, ![3, 256]⟩ .f32
  wo : FVec Ideal ⟨2, ![64, 512]⟩ .f32
  bo : FVec Ideal ⟨1, ![512]⟩ .f32
  w0 : FVec Ideal ⟨2, ![15, 512]⟩ .f32
  b0 : FVec Ideal ⟨1, ![512]⟩ .f32
  g0 : FVec Ideal ⟨1, ![512]⟩ .f32
  be0 : FVec Ideal ⟨1, ![512]⟩ .f32
  g1 : FVec Ideal ⟨1, ![1024]⟩ .f32
  be1 : FVec Ideal ⟨1, ![1024]⟩ .f32
  w1 : FVec Ideal ⟨2, ![1024, 1]⟩ .f32
  b1 : FVec Ideal ⟨1, ![1]⟩ .f32

namespace Args

variable (A : Args)

/-- The node sample `i` names. -/
def node (i : Fin 512) : Fin 200 := nodeOf (A.x (ix2 i nodeCol))

/-- What the precondition says of the arguments. -/
structure Drawn : Prop where
  node : ∀ i, Ideal.fptosi 32 (A.x (ix2 i nodeCol)) = BitVec.ofNat 32 (A.node i).val
  eye : ∀ n q : Fin 200, A.cheb (ix3 0 n q) = if n = q then 1 else 0
  signal : ∀ i t n, IsReal (A.x (ix2 i (sigCol t n)))
  graph : ∀ n q, IsReal (A.cheb (ix3 1 n q))
  weight : ∀ k, IsReal (A.wg (ix3 1 0 k))

/-- The graph convolution of sample `i` at node `n` and time step `t`. -/
def inp (n : Fin 200) (i : Fin 512) (t : Fin 12) : Fin 64 → EReal :=
  graphM (fun k => A.wg (ix3 0 0 k)) (fun k => A.wg (ix3 1 0 k)) (fun k => A.bg (ix1 k)) (A.x (ix2 i (sigCol t n)))
    (fun m => A.cheb (ix3 1 n m)) (fun m => A.x (ix2 i (sigCol t m)))

/-- The last hidden state of the top layer for sample `i`, at the node the sample names. -/
def last (i : Fin 512) : Fin 64 → ℝ :=
  (stackM (fun l k j => A.wx (ix3 (Fin.ofNat 3 l) k j)) (fun l k j => A.wh (ix3 (Fin.ofNat 3 l) k j)) (fun l j => A.bl (ix2 (Fin.ofNat 3 l) j))
    (fun t => A.inp (A.node i) i (Fin.ofNat 12 t)) 2 12).2

/-- The network's output at sample `i`. -/
def net (i : Fin 512) : EReal :=
  outM
    (staticM (fun i p => A.x (ix2 i (featCol p))) (fun p k => A.w0 (ix2 p k)) (fun k => A.b0 (ix1 k)) (fun k => A.g0 (ix1 k)) (fun k => A.be0 (ix1 k)))
    (fun i k => featM (A.last i) (fun p => A.wo (ix2 p k)) (A.bo (ix1 k)))
    (fun k => A.g1 (ix1 k)) (fun k => A.be1 (ix1 k)) (fun k => A.w1 (ix2 k 0)) (A.b1 (ix1 0)) i

end Args

end Cert.Stgcn
-- ==== Proof.KernelSample.lean ====
/- The kernel's output at a sample, from its blocks: the network's. -/
module

public import proofs.«01_k».proof.Proof.KernelRow
public import proofs.«01_k».proof.Proof.KernelTail
public import proofs.«01_k».proof.Proof.Net

@[expose] public section

noncomputable section

namespace Cert.Stgcn

open Cert.KernelIdeal Cert.KernelIdeal.Gen Idealize.ShloMosaic Idealize.ShloMosaic.TcCoe

/-- The graph features of a sample at a time step. -/
theorem seqK_at (A : Args) (hA : A.Drawn) (x0 : FVec Ideal S12x512x200 .f32) (x1 : FVec Ideal S512x16 .f32) (x2 : FVec Ideal S200x200 .f32)
    (x4 : FVec Ideal S1x64 .f32) (h0 : ∀ t i n, x0 (ix3 t i n) = A.x (ix2 i (sigCol t n)))
    (h1 : ∀ (i : Fin 512) (p : Fin 16), x1 (ix2 i p) = A.x (ix2 i ⟨2400 + p.val, by omega⟩))
    (h2 : ∀ n q, x2 (ix2 n q) = A.cheb (ix3 1 n q)) (h4 : ∀ k, x4 (ix2 0 k) = A.bg (ix1 k)) (t : ℕ) (i : Fin 512) (k : Fin 64) :
    seqK x0 x1 x2 A.wg x4 t (ix2 i k) = A.inp (A.node i) i (Fin.ofNat 12 t) k := by
  have hs : last1 x1 (ix2 i 0) = A.x (ix2 i nodeCol) := h1 i 15
  have hp : ∀ n, plane x0 (Fin.ofNat 12 t) (ix2 i n) = A.x (ix2 i (sigCol (Fin.ofNat 12 t) n)) := fun n => h0 _ i n
  have e := gcn_at (last1 x1) x2 (plane A.wg (Fin.ofNat 2 0)) (plane A.wg (Fin.ofNat 2 1)) x4 (plane x0 (Fin.ofNat 12 t)) i k
    (by rw [hs]; exact hA.node i) (fun n => by rw [hp]; exact hA.signal _ _ _) (fun n q => by rw [h2]; exact hA.graph n q)
    (fun k => hA.weight k)
  rw [seqK, e]
  simp only [hs, hp, h2, h4]
  rfl

/-- The kernel's output at a sample. -/
theorem kOut_at (A : Args) (hA : A.Drawn) (x0 : FVec Ideal S12x512x200 .f32) (x1 : FVec Ideal S512x16 .f32) (x2 : FVec Ideal S200x200 .f32)
    (x4 : FVec Ideal S1x64 .f32) (x9 x11 x12 x13 : FVec Ideal S1x512 .f32) (x14 x15 x16 : FVec Ideal S1x1024 .f32) (x17 : FVec Ideal S1x1 .f32)
    (h0 : ∀ t i n, x0 (ix3 t i n) = A.x (ix2 i (sigCol t n)))
    (h1 : ∀ (i : Fin 512) (p : Fin 16), x1 (ix2 i p) = A.x (ix2 i ⟨2400 + p.val, by omega⟩))
    (h2 : ∀ n q, x2 (ix2 n q) = A.cheb (ix3 1 n q)) (h4 : ∀ k, x4 (ix2 0 k) = A.bg (ix1 k))
    (h9 : ∀ k, x9 (ix2 0 k) = A.bo (ix1 k)) (h11 : ∀ k, x11 (ix2 0 k) = A.b0 (ix1 k)) (h12 : ∀ k, x12 (ix2 0 k) = A.g0 (ix1 k))
    (h13 : ∀ k, x13 (ix2 0 k) = A.be0 (ix1 k)) (h14 : ∀ k, x14 (ix2 0 k) = A.g1 (ix1 k)) (h15 : ∀ k, x15 (ix2 0 k) = A.be1 (ix1 k))
    (h16 : ∀ k, x16 (ix2 0 k) = A.w1 (ix2 k 0)) (h17 : x17 (ix2 0 0) = A.b1 (ix1 0)) (i : Fin 512) :
    kOut x0 x1 x2 A.wg x4 A.wx A.wh A.bl A.wo x9 A.w0 x11 x12 x13 x14 x15 x16 x17 (ix2 i 0) = A.net i := by
  have hh : ∀ (o : ℕ) (ho : o + 256 ≤ 512) (r : Fin 256) (k : Fin 64), hidK (seqK x0 x1 x2 A.wg x4) A.wx A.wh A.bl o ho (ix2 r k)
      = ((2 * A.last ⟨o + r.val, by omega⟩ k : ℝ) : EReal) := fun o ho r k => by
    rw [hidK_at]
    simp only [seqK_at A hA x0 x1 x2 x4 h0 h1 h2 h4]
    rfl
  have hf := featK_at _ _ A.wo x9 A.last (hh 0 (by decide)) (hh 256 (by decide))
  have ha : ∀ i k, leakyK (bnK x12 x13 (staticK (first15 x1) A.w0 x11)) (ix2 i k)
      = staticM (fun i p => A.x (ix2 i (featCol p))) (fun p k => A.w0 (ix2 p k)) (fun k => A.b0 (ix1 k)) (fun k => A.g0 (ix1 k))
          (fun k => A.be0 (ix1 k)) i k := fun i k => by
    have hx : ∀ (i : Fin 512) (p : Fin 15), first15 x1 (ix2 i p) = A.x (ix2 i (featCol p)) := fun i p => h1 i ⟨p.val, by omega⟩
    rw [leakyK_at, bnK_at, staticM]
    simp only [staticK_at, hx, h11, h12, h13]
  rw [kOut, headK_at]
  simp only [ha, hf, h9, h14, h15, h16, h17]
  rfl

end Cert.Stgcn

end
-- ==== Proof.KernelValue.lean ====
/- The kernel's result: its windows' blocks read back to the arguments, and its one write-back. -/
module

public import proofs.«01_k».proof.Proof.KernelOut
public import proofs.«01_k».proof.Proof.KernelSample
public import proofs.«01_k».proof.Proof.Gen.KernelIdeal.Value
public import Idealize.ShloMosaic.Lib.Claim
public import Idealize.ShloMosaic.Lib.Pipeline.ValueKit

@[expose] public section

noncomputable section

namespace Cert.Stgcn

open Cert.KernelIdeal Cert.KernelIdeal.Gen Cert.KernelIdeal.Value Idealize.ShloMosaic Idealize.ShloMosaic.TcCoe Idealize.ShloMosaic.StableHlo

variable (m : (ℓ : Loc nD τ sig) → Buf (Elt Ideal) ℓ) (c : Dev nD) (t : Fin cfg0.N)

/-- Every window's block starts at the array's first element on every axis. -/
theorem off_zero : ∀ (w : Fin cfg0.W) (t : Fin cfg0.N) (a : Fin (cfg0.win w).shape.rank),
    (cfg0.win w).kind.off ((cfg0.win w).index t a) ((cfg0.win w).size a) = 0 := by
  decide +kernel

/-! ### Each window's block is its whole array -/

theorem block_0 : iblk m c 0 t = V m c main_v2 :=
  Memref.read_access_unit_zero (Elt Ideal) _ (by exact funext (off_zero 0 t)) (by intro a; rw [show _ = 0 from off_zero 0 t a, Nat.zero_add]) _

theorem block_1 : iblk m c 1 t = V m c main_v3 :=
  Memref.read_access_unit_zero (Elt Ideal) _ (by exact funext (off_zero 1 t)) (by intro a; rw [show _ = 0 from off_zero 1 t a, Nat.zero_add]) _

theorem block_2 : iblk m c 2 t = V m c main_v5 :=
  Memref.read_access_unit_zero (Elt Ideal) _ (by exact funext (off_zero 2 t)) (by intro a; rw [show _ = 0 from off_zero 2 t a, Nat.zero_add]) _

theorem block_3 : iblk m c 3 t = V m c main_arg2 :=
  Memref.read_access_unit_zero (Elt Ideal) _ (by exact funext (off_zero 3 t)) (by intro a; rw [show _ = 0 from off_zero 3 t a, Nat.zero_add]) _

theorem block_4 : iblk m c 4 t = V m c main_v6 :=
  Memref.read_access_unit_zero (Elt Ideal) _ (by exact funext (off_zero 4 t)) (by intro a; rw [show _ = 0 from off_zero 4 t a, Nat.zero_add]) _

theorem block_5 : iblk m c 5 t = V m c main_arg4 :=
  Memref.read_access_unit_zero (Elt Ideal) _ (by exact funext (off_zero 5 t)) (by intro a; rw [show _ = 0 from off_zero 5 t a, Nat.zero_add]) _

theorem block_6 : iblk m c 6 t = V m c main_arg5 :=
  Memref.read_access_unit_zero (Elt Ideal) _ (by exact funext (off_zero 6 t)) (by intro a; rw [show _ = 0 from off_zero 6 t a, Nat.zero_add]) _

theorem block_7 : iblk m c 7 t = V m c main_arg6 :=
  Memref.read_access_unit_zero (Elt Ideal) _ (by exact funext (off_zero 7 t)) (by intro a; rw [show _ = 0 from off_zero 7 t a, Nat.zero_add]) _

theorem block_8 : iblk m c 8 t = V m c main_arg7 :=
  Memref.read_access_unit_zero (Elt Ideal) _ (by exact funext (off_zero 8 t)) (by intro a; rw [show _ = 0 from off_zero 8 t a, Nat.zero_add]) _

theorem block_9 : iblk m c 9 t = V m c main_v7 :=
  Memref.read_access_unit_zero (Elt Ideal) _ (by exact funext (off_zero 9 t)) (by intro a; rw [show _ = 0 from off_zero 9 t a, Nat.zero_add]) _

theorem block_10 : iblk m c 10 t = V m c main_arg9 :=
  Memref.read_access_unit_zero (Elt Ideal) _ (by exact funext (off_zero 10 t)) (by intro a; rw [show _ = 0 from off_zero 10 t a, Nat.zero_add]) _

theorem block_11 : iblk m c 11 t = V m c main_v8 :=
  Memref.read_access_unit_zero (Elt Ideal) _ (by exact funext (off_zero 11 t)) (by intro a; rw [show _ = 0 from off_zero 11 t a, Nat.zero_add]) _

theorem block_12 : iblk m c 12 t = V m c main_v9 :=
  Memref.read_access_unit_zero (Elt Ideal) _ (by exact funext (off_zero 12 t)) (by intro a; rw [show _ = 0 from off_zero 12 t a, Nat.zero_add]) _

theorem block_13 : iblk m c 13 t = V m c main_v10 :=
  Memref.read_access_unit_zero (Elt Ideal) _ (by exact funext (off_zero 13 t)) (by intro a; rw [show _ = 0 from off_zero 13 t a, Nat.zero_add]) _

theorem block_14 : iblk m c 14 t = V m c main_v11 :=
  Memref.read_access_unit_zero (Elt Ideal) _ (by exact funext (off_zero 14 t)) (by intro a; rw [show _ = 0 from off_zero 14 t a, Nat.zero_add]) _

theorem block_15 : iblk m c 15 t = V m c main_v12 :=
  Memref.read_access_unit_zero (Elt Ideal) _ (by exact funext (off_zero 15 t)) (by intro a; rw [show _ = 0 from off_zero 15 t a, Nat.zero_add]) _

theorem block_16 : iblk m c 16 t = V m c main_v13 :=
  Memref.read_access_unit_zero (Elt Ideal) _ (by exact funext (off_zero 16 t)) (by intro a; rw [show _ = 0 from off_zero 16 t a, Nat.zero_add]) _

theorem block_17 : iblk m c 17 t = V m c main_v14 :=
  Memref.read_access_unit_zero (Elt Ideal) _ (by exact funext (off_zero 17 t)) (by intro a; rw [show _ = 0 from off_zero 17 t a, Nat.zero_add]) _

/-- The arguments of the kernel. -/
def kernelArgs : Args where
  x := m ((c.tc : Thread nD τ).loc main_arg0)
  cheb := m ((c.tc : Thread nD τ).loc main_arg1)
  wg := m ((c.tc : Thread nD τ).loc main_arg2)
  bg := m ((c.tc : Thread nD τ).loc main_arg3)
  wx := m ((c.tc : Thread nD τ).loc main_arg4)
  wh := m ((c.tc : Thread nD τ).loc main_arg5)
  bl := m ((c.tc : Thread nD τ).loc main_arg6)
  wo := m ((c.tc : Thread nD τ).loc main_arg7)
  bo := m ((c.tc : Thread nD τ).loc main_arg8)
  w0 := m ((c.tc : Thread nD τ).loc main_arg9)
  b0 := m ((c.tc : Thread nD τ).loc main_arg10)
  g0 := m ((c.tc : Thread nD τ).loc main_arg11)
  be0 := m ((c.tc : Thread nD τ).loc main_arg12)
  g1 := m ((c.tc : Thread nD τ).loc main_arg13)
  be1 := m ((c.tc : Thread nD τ).loc main_arg14)
  w1 := m ((c.tc : Thread nD τ).loc main_arg15)
  b1 := m ((c.tc : Thread nD τ).loc main_arg16)

/-! ### The arrays the host prepares -/

theorem signals_at (a : Fin 12) (i : Fin 512) (n : Fin 200) :
    (V m c main_v2 : FVec Ideal S12x512x200 .f32) (ix3 a i n) = (kernelArgs m c).x (ix2 i (sigCol a n)) := by
  entry_read
  pointwise
  rfl

theorem tail_at (i : Fin 512) (p : Fin 16) :
    (V m c main_v3 : FVec Ideal S512x16 .f32) (ix2 i p) = (kernelArgs m c).x (ix2 i ⟨2400 + p.val, by omega⟩) := by
  entry_read
  pointwise
  rfl

theorem graph_at (n q : Fin 200) : (V m c main_v5 : FVec Ideal S200x200 .f32) (ix2 n q) = (kernelArgs m c).cheb (ix3 1 n q) := by
  entry_read
  pointwise
  rfl

theorem bg_at (k : Fin 64) : (V m c main_v6 : FVec Ideal S1x64 .f32) (ix2 0 k) = (kernelArgs m c).bg (ix1 k) := by
  entry_read
  pointwise
  rfl

theorem bo_at (k : Fin 512) : (V m c main_v7 : FVec Ideal S1x512 .f32) (ix2 0 k) = (kernelArgs m c).bo (ix1 k) := by
  entry_read
  pointwise
  rfl

theorem b0_at (k : Fin 512) : (V m c main_v8 : FVec Ideal S1x512 .f32) (ix2 0 k) = (kernelArgs m c).b0 (ix1 k) := by
  entry_read
  pointwise
  rfl

theorem g0_at (k : Fin 512) : (V m c main_v9 : FVec Ideal S1x512 .f32) (ix2 0 k) = (kernelArgs m c).g0 (ix1 k) := by
  entry_read
  pointwise
  rfl

theorem be0_at (k : Fin 512) : (V m c main_v10 : FVec Ideal S1x512 .f32) (ix2 0 k) = (kernelArgs m c).be0 (ix1 k) := by
  entry_read
  pointwise
  rfl

theorem g1_at (k : Fin 1024) : (V m c main_v11 : FVec Ideal S1x1024 .f32) (ix2 0 k) = (kernelArgs m c).g1 (ix1 k) := by
  entry_read
  pointwise
  rfl

theorem be1_at (k : Fin 1024) : (V m c main_v12 : FVec Ideal S1x1024 .f32) (ix2 0 k) = (kernelArgs m c).be1 (ix1 k) := by
  entry_read
  pointwise
  rfl

theorem w1_at (k : Fin 1024) : (V m c main_v13 : FVec Ideal S1x1024 .f32) (ix2 0 k) = (kernelArgs m c).w1 (ix2 k 0) := by
  entry_read
  pointwise
  rfl

theorem b1_at : (V m c main_v14 : FVec Ideal S1x1 .f32) (ix2 0 0) = (kernelArgs m c).b1 (ix1 0) := by
  entry_read
  pointwise
  rfl

/-! ### The result -/

/-- What the body leaves at the one point, at a sample. -/
theorem outs_at (hA : (kernelArgs m c).Drawn) (i : Fin 512) : (outsAt0 m c t : FVec Ideal S512x1 .f32) (ix2 i 0) = (kernelArgs m c).net i := by
  rw [outs_eq, block_0, block_1, block_2, block_3, block_4, block_5, block_6, block_7, block_8, block_9, block_10, block_11, block_12, block_13, block_14, block_15, block_16, block_17]
  rw [V_main_arg2, V_main_arg4, V_main_arg5, V_main_arg6, V_main_arg7, V_main_arg9]
  exact kOut_at (kernelArgs m c) hA _ _ _ _ _ _ _ _ _ _ _ _ (signals_at m c) (tail_at m c) (graph_at m c) (bg_at m c) (bo_at m c) (b0_at m c)
    (g0_at m c) (be0_at m c) (g1_at m c) (be1_at m c) (w1_at m c) (b1_at m c) i

/-- The result array is what the one point wrote back. -/
theorem result_eq : (dats m 0 c).arrAt 18 cfg0.N = outsAt0 m c ⟨0, by decide⟩ := by
  have h := blocks18 m c ⟨0, by decide⟩ (by decide +kernel)
  rw [flushed18] at h
  refine Eq.trans (Eq.symm ?_) (h.trans (funext fun _ => rfl))
  exact Memref.read_access_unit_zero (Elt Ideal) _ (by exact funext (off_zero 18 _)) (by intro a; rw [show _ = 0 from off_zero 18 _ a, Nat.zero_add]) _

/-- The kernel's result at a sample. -/
theorem kernel_at (hA : (kernelArgs m c).Drawn) (i : Fin 512) :
    ((dats m 0 c).arrAt 18 cfg0.N : FVec Ideal S512x1 .f32) (ix2 i 0) = (kernelArgs m c).net i := by
  rw [result_eq]
  exact outs_at m c _ hA i

end Cert.Stgcn

end
-- ==== Proof.RefSteps.lean ====
/- The reference's own steps as functions on arrays, and its output after the loop as their composition. -/
module

public import proofs.«01_k».proof.Proof.Gen.ReferenceIdeal.Run
public import Idealize.ShloMosaic.Lib.Pointwise

@[expose] public section

noncomputable section

namespace Cert.Stgcn

open Cert.ReferenceIdeal Cert.ReferenceIdeal.Gen Idealize.ShloMosaic Idealize.ShloMosaic.TcCoe Idealize.ShloMosaic.StableHlo

variable {F : FTy → Type} [FloatOps F]

/-! ### A recurrent layer -/

/-- The gates of one step of every node of every sample. -/
def zR (x h : FVec F S102400x64 .f32) (wx wh : FVec F S1x64x256 .f32) (b : FVec F S1x256 .f32) : FVec F S102400x256 .f32 :=
  addf (addf
      (Host.dotGeneral dot_S102400x64_S64x256_S102400x256_1_0_0_1_n_n none x (shapeCast S64x256 wx shapeCasts_S1x64x256_S64x256))
      (Host.dotGeneral dot_S102400x64_S64x256_S102400x256_1_0_0_1_n_n none h (shapeCast S64x256 wh shapeCasts_S1x64x256_S64x256)))
    (broadcastInDim S102400x256 ![0, 1] bcast_S1x256_S102400x256_0_1
      (broadcastInDim S1x256 ![1] bcast_S256_S1x256_1 (shapeCast S256 b shapeCasts_S1x256_S256)))

/-- The logistic function. -/
def sigR (z : FVec F S102400x64 .f32) : FVec F S102400x64 .f32 :=
  Host.divf (broadcastInDim S102400x64 ![] bcast_S_S102400x64 (constant S_ .f32 0x3F800000#32))
    (addf (broadcastInDim S102400x64 ![] bcast_S_S102400x64 (constant S_ .f32 0x3F800000#32)) (Host.exp (Host.negf z)))

/-- The cell state after one step. -/
def cR (z : FVec F S102400x256 .f32) (c : FVec F S102400x64 .f32) : FVec F S102400x64 .f32 :=
  addf (mulf (sigR (extractStridedSlice S102400x64 ![0, 64] z slices_S102400x256_S102400x64_0_64)) c)
    (mulf (sigR (extractStridedSlice S102400x64 ![0, 0] z slices_S102400x256_S102400x64_0_0))
      (Host.tanh (extractStridedSlice S102400x64 ![0, 128] z slices_S102400x256_S102400x64_0_128)))

/-- The hidden state after one step. -/
def hR (z : FVec F S102400x256 .f32) (c : FVec F S102400x64 .f32) : FVec F S102400x64 .f32 :=
  mulf (sigR (extractStridedSlice S102400x64 ![0, 192] z slices_S102400x256_S102400x64_0_192)) (Host.tanh c)

/-! ### Normalisation -/

/-- The mean of each of 512 columns. -/
def mean512 (h : FVec F S512x512 .f32) : FVec F S512 .f32 :=
  Host.divf (Host.reduceAdd h (constant S_ .f32 0x00000000#32) reducesTo_S512x512_S512_d0 h_S_)
    (broadcastInDim S512 ![] bcast_S_S512 (constant S_ .f32 0x44000000#32))

/-- A row repeated for every sample. -/
def rows512 (v : FVec F S512 .f32) : FVec F S512x512 .f32 :=
  broadcastInDim S512x512 ![0, 1] bcast_S1x512_S512x512_0_1 (broadcastInDim S1x512 ![1] bcast_S512_S1x512_1 v)

/-- Batch normalisation of 512 columns. -/
def bn512 (g be : FVec F S512 .f32) (h : FVec F S512x512 .f32) : FVec F S512x512 .f32 :=
  addf (Host.divf (mulf (rows512 g) (subf h (rows512 (mean512 h))))
      (rows512 (Host.sqrt (addf (mean512 (mulf (subf h (rows512 (mean512 h))) (subf h (rows512 (mean512 h)))))
        (broadcastInDim S512 ![] bcast_S_S512 (constant S_ .f32 0x3727C5AC#32))))))
    (rows512 be)

/-- The mean of each of 1024 columns. -/
def mean1024 (h : FVec F S512x1024 .f32) : FVec F S1024 .f32 :=
  Host.divf (Host.reduceAdd h (constant S_ .f32 0x00000000#32) reducesTo_S512x1024_S1024_d0 h_S_)
    (broadcastInDim S1024 ![] bcast_S_S1024 (constant S_ .f32 0x44000000#32))

/-- A row of 1024 repeated for every sample. -/
def rows1024 (v : FVec F S1024 .f32) : FVec F S512x1024 .f32 :=
  broadcastInDim S512x1024 ![0, 1] bcast_S1x1024_S512x1024_0_1 (broadcastInDim S1x1024 ![1] bcast_S1024_S1x1024_1 v)

/-- Batch normalisation of 1024 columns. -/
def bn1024 (g be : FVec F S1024 .f32) (h : FVec F S512x1024 .f32) : FVec F S512x1024 .f32 :=
  addf (Host.divf (mulf (rows1024 g) (subf h (rows1024 (mean1024 h))))
      (rows1024 (Host.sqrt (addf (mean1024 (mulf (subf h (rows1024 (mean1024 h))) (subf h (rows1024 (mean1024 h)))))
        (broadcastInDim S1024 ![] bcast_S_S1024 (constant S_ .f32 0x3727C5AC#32))))))
    (rows1024 be)

/-! ### The two groups of features -/

/-- The last sixteen columns of the input. -/
def tail16 (x : FVec F S512x2416 .f32) : FVec F S512x16 .f32 :=
  extractStridedSlice S512x16 ![0, 2400] x slices_S512x2416_S512x16_0_2400

/-- The static features before normalisation. -/
def staticR (x : FVec F S512x2416 .f32) (w : FVec F S15x512 .f32) (b : FVec F S512 .f32) : FVec F S512x512 .f32 :=
  addf (Host.dotGeneral dot_S512x15_S15x512_S512x512_1_0_0_1_n_n none
      (extractStridedSlice S512x15 ![0, 0] (tail16 x) slices_S512x16_S512x15_0_0) w) (rows512 b)

/-- The leaky rectifier. -/
def leakyR (h : FVec F S512x512 .f32) : FVec F S512x512 .f32 :=
  select (cmpf .oge h (broadcastInDim S512x512 ![] bcast_S_S512x512 (constant S_ .f32 0x00000000#32))) h
    (mulf (broadcastInDim S512x512 ![] bcast_S_S512x512 (id (constant S_ .f32 0x3C23D70A#32))) h)

/-- The recurrent features of every node of every sample. -/
def nodesR (h : FVec F S102400x64 .f32) (w : FVec F S64x512 .f32) (b : FVec F S512 .f32) : FVec F S512x200x512 .f32 :=
  addf (Host.dotGeneral dot_S512x200x64_S64x512_S512x200x512_2_0_01_1_n_n none
      (shapeCast S512x200x64 h shapeCasts_S102400x64_S512x200x64) w)
    (broadcastInDim S512x200x512 ![0, 1, 2] bcast_S1x1x512_S512x200x512_0_1_2 (broadcastInDim S1x1x512 ![2] bcast_S512_S1x1x512_2 b))

/-- Each sample's node id. -/
def idsR (x : FVec F S512x2416 .f32) : IVec S512x1x1 32 :=
  broadcastInDim S512x1x1 ![0] bcast_S512_S512x1x1_0
    (fptosi 32 (shapeCast S512 (extractStridedSlice S512x1 ![0, 15] (tail16 x) slices_S512x16_S512x1_0_15) shapeCasts_S512x1_S512))

/-- The ids with the negative ones counted from the end. -/
def wrapR (i : IVec S512x1x1 32) : IVec S512x1x1 32 :=
  select (cmpi .slt i (broadcastInDim S512x1x1 ![] bcast_S_S512x1x1 (constantI S_ 32 0#32)))
    (addi i (broadcastInDim S512x1x1 ![] bcast_S_S512x1x1 (constantI S_ 32 200#32))) i

/-- Which samples' ids name a node. -/
def inRangeR (i : IVec S512x1x1 32) : IVec S512x1 1 :=
  Host.reduce IntOp.andi (andi
      (cmpi .sge i (broadcastInDim S512x1x1 ![] bcast_S_S512x1x1 (constantI S_ 32 0#32)))
      (cmpi .sle i (broadcastInDim S512x1x1 ![0, 1, 2] bcast_S1x1x1_S512x1x1_0_1_2
        (broadcastInDim S1x1x1 ![2] bcast_S1_S1x1x1_2 (constantI S1 32 199#32)))))
    (constantI S_ 1 1#1) reducesTo_S512x1x1_S512x1_d2 h_S_

/-- Each sample's features at its own node. -/
def takeR (v : FVec F S512x200x512 .f32) (i : IVec S512x1x1 32) : FVec F S512x512 .f32 :=
  shapeCast S512x512 (select (broadcastInDim S512x1x512 ![0, 1] bcast_S512x1_S512x1x512_0_1 (inRangeR (wrapR i)))
      (Host.gather gather_S512x200x512_S512x1x1_S512x1x512_2_1_0_0_1_2_11512 v (wrapR i))
      (broadcastInDim S512x1x512 ![] bcast_S_S512x1x512 (constant S_ .f32 0x7FC00000#32)))
    shapeCasts_S512x1x512_S512x512

/-- The two groups of features side by side. -/
def joinR (a b : FVec F S512x512 .f32) : FVec F S512x1024 .f32 :=
  concatenate S512x1024 1 [⟨S512x512, a⟩, ⟨S512x512, b⟩] concatenates_S512x512_S512x512_S512x1024_d1

/-- The last dense layer and the logistic function. -/
def headR (h : FVec F S512x1024 .f32) (w : FVec F S1024x1 .f32) (b : FVec F S1 .f32) : FVec F S512x1 .f32 :=
  Host.divf (broadcastInDim S512x1 ![] bcast_S_S512x1 (constant S_ .f32 0x3F800000#32))
    (addf (broadcastInDim S512x1 ![] bcast_S_S512x1 (constant S_ .f32 0x3F800000#32)) (Host.exp (Host.negf
      (addf (Host.dotGeneral dot_S512x1024_S1024x1_S512x1_1_0_0_1_n_n none h w)
        (broadcastInDim S512x1 ![0, 1] bcast_S1x1_S512x1_0_1 (broadcastInDim S1x1 ![1] bcast_S1_S1x1_1 b))))))

/-- What the reference makes of the last hidden state `h`. -/
def rOut (x : FVec F S512x2416 .f32) (h : FVec F S102400x64 .f32) (wo : FVec F S64x512 .f32) (bo : FVec F S512 .f32)
    (w0 : FVec F S15x512 .f32) (b0 g0 be0 : FVec F S512 .f32) (g1 be1 : FVec F S1024 .f32) (w1 : FVec F S1024x1 .f32)
    (b1 : FVec F S1 .f32) : FVec F S512x1 .f32 :=
  headR (bn1024 g1 be1 (joinR (leakyR (bn512 g0 be0 (staticR x w0 b0))) (takeR (nodesR h wo bo) (idsR x)))) w1 b1

set_option maxHeartbeats 4000000 in
set_option maxRecDepth 8192 in
/-- The reference's output, of the contents its last host operations start from. -/
theorem out_eq_rOut (V : Valuation τ sig (Elt F)) :
    Cert.ReferenceIdeal.Value.out_main_v96 V
      = rOut (V (Proc.devRef .tc main_arg0)) (V (Proc.devRef .tc main_v11_9)) (V (Proc.devRef .tc main_arg7)) (V (Proc.devRef .tc main_arg8))
        (V (Proc.devRef .tc main_arg9)) (V (Proc.devRef .tc main_arg10)) (V (Proc.devRef .tc main_arg11)) (V (Proc.devRef .tc main_arg12))
        (V (Proc.devRef .tc main_arg13)) (V (Proc.devRef .tc main_arg14)) (V (Proc.devRef .tc main_arg15)) (V (Proc.devRef .tc main_arg16)) := by
  rfl

end Cert.Stgcn

end
-- ==== Proof.RefRow.lean ====
/- The reference's steps at the ideal values, read at an index: the recurrent layer in the model's terms. -/
module

public import proofs.«01_k».proof.Proof.RefSteps
public import proofs.«01_k».proof.Proof.Model

@[expose] public section

noncomputable section

namespace Cert.Stgcn

open Cert.ReferenceIdeal Cert.ReferenceIdeal.Gen Idealize.ShloMosaic Idealize.ShloMosaic.TcCoe Idealize.ShloMosaic.StableHlo

theorem zR_at (x h : FVec Ideal S102400x64 .f32) (wx wh : FVec Ideal S1x64x256 .f32) (b : FVec Ideal S1x256 .f32) (r : Fin 102400)
    (xv : Fin 64 → EReal) (hv : Fin 64 → ℝ) (hx : ∀ k, x (ix2 r k) = xv k) (hh : ∀ k, h (ix2 r k) = (hv k : EReal)) (j : Fin 256) :
    zR x h wx wh b (ix2 r j)
      = gatesM (fun k j => wx (ix3 0 k j)) (fun k j => wh (ix3 0 k j)) (fun j => b (ix2 0 j)) xv hv j := by
  pointwise [zR]
  simp only [hx, hh, gatesM]

theorem sigR_at (z : FVec Ideal S102400x64 .f32) (r : Fin 102400) (k : Fin 64) : sigR z (ix2 r k) = (sgR (z (ix2 r k)) : EReal) := by
  rw [← logistic_eq]
  pointwise [sigR]

theorem cR_at (z : FVec Ideal S102400x256 .f32) (c : FVec Ideal S102400x64 .f32) (r : Fin 102400) (zv : Fin 256 → EReal) (cv : Fin 64 → ℝ)
    (hz : ∀ j, z (ix2 r j) = zv j) (hc : ∀ k, c (ix2 r k) = (cv k : EReal)) (k : Fin 64) :
    cR z c (ix2 r k) = (cellM zv cv k : EReal) := by
  pointwise [cR]
  simp only [sigR_at]
  pointwise
  rw [tanh_eq, hc]
  simp only [hz, cellM, lane]
  norm_cast
  congr 5 <;> simp

theorem hR_at (z : FVec Ideal S102400x256 .f32) (c : FVec Ideal S102400x64 .f32) (r : Fin 102400) (zv : Fin 256 → EReal) (cv : Fin 64 → ℝ)
    (hz : ∀ j, z (ix2 r j) = zv j) (hc : ∀ k, c (ix2 r k) = (cv k : EReal)) (k : Fin 64) :
    hR z c (ix2 r k) = (hidM zv cv k : EReal) := by
  pointwise [hR]
  simp only [sigR_at]
  pointwise
  rw [hc, Ideal.tanh_coe]
  simp only [hz, hidM, lane]
  norm_cast

theorem mean512_at (h : FVec Ideal S512x512 .f32) (k : Fin 512) : mean512 h (ix1 k) = meanM (fun i => h (ix2 i k)) := by
  pointwise [mean512]
  rw [lit_512, meanM]

theorem rows512_at (v : FVec Ideal S512 .f32) (i k : Fin 512) : rows512 v (ix2 i k) = v (ix1 k) := by
  pointwise [rows512]

theorem bn512_at (g be : FVec Ideal S512 .f32) (h : FVec Ideal S512x512 .f32) (i k : Fin 512) :
    bn512 g be h (ix2 i k) = bnM (g (ix1 k)) (be (ix1 k)) (fun i => h (ix2 i k)) i := by
  rw [bnM]
  simp only [meanM, ← lit_512]
  pointwise [bn512, rows512, mean512]

theorem bn1024_at (g be : FVec Ideal S1024 .f32) (h : FVec Ideal S512x1024 .f32) (i : Fin 512) (k : Fin 1024) :
    bn1024 g be h (ix2 i k) = bnM (g (ix1 k)) (be (ix1 k)) (fun i => h (ix2 i k)) i := by
  rw [bnM]
  simp only [meanM, ← lit_512]
  pointwise [bn1024, rows1024, mean1024]

theorem staticR_at (x : FVec Ideal S512x2416 .f32) (w : FVec Ideal S15x512 .f32) (b : FVec Ideal S512 .f32) (i k : Fin 512) :
    staticR x w b (ix2 i k) = (∑ p : Fin 15, x (ix2 i ⟨2400 + p.val, by omega⟩) * w (ix2 p k)) + b (ix1 k) := by
  pointwise [staticR, tail16, rows512]

theorem leakyR_at (h : FVec Ideal S512x512 .f32) (i k : Fin 512) : leakyR h (ix2 i k) = leakyM (h (ix2 i k)) := by
  pointwise [leakyR]
  rfl

theorem nodesR_at (h : FVec Ideal S102400x64 .f32) (w : FVec Ideal S64x512 .f32) (b : FVec Ideal S512 .f32) (i : Fin 512) (n : Fin 200)
    (k : Fin 512) (hv : Fin 64 → ℝ) (hh : ∀ p, h (ix2 ⟨i.val * 200 + n.val, by omega⟩ p) = (hv p : EReal)) :
    nodesR h w b (ix3 i n k) = featM hv (fun p => w (ix2 p k)) (b (ix1 k)) := by
  pointwise [nodesR]
  rw [featM]
  simp only [hh]

theorem join_lo (a b : FVec Ideal S512x512 .f32) (i k : Fin 512) : joinR a b (ix2 i (loCol k)) = a (ix2 i k) := by
  pointwise [joinR]
  rw [dif_pos (show (loCol k).val < 512 from k.isLt)]
  rfl

theorem join_hi (a b : FVec Ideal S512x512 .f32) (i k : Fin 512) : joinR a b (ix2 i (hiCol k)) = b (ix2 i k) := by
  pointwise [joinR]
  rw [dif_neg (show ¬ (hiCol k).val < 512 by simp [hiCol])]
  congr 2
  apply Fin.ext; simp [hiCol]

theorem headR_at (h : FVec Ideal S512x1024 .f32) (w : FVec Ideal S1024x1 .f32) (b : FVec Ideal S1 .f32) (i : Fin 512) :
    headR h w b (ix2 i 0)
      = (sgR ((∑ k, h (ix2 i (loCol k)) * w (ix2 (loCol k) 0)) + (∑ k, h (ix2 i (hiCol k)) * w (ix2 (hiCol k) 0)) + b (ix1 0)) : EReal) := by
  rw [← logistic_eq]
  pointwise [headR]
  rw [show (∑ k : Fin 1024, h (ix2 i k) * w (ix2 k 0)) = _ from Fin.sum_univ_add (a := 512) (b := 512) _]
  rfl

end Cert.Stgcn

end
-- ==== Proof.RefTake.lean ====
/- The reference's per-sample read of the node features: with an id that names a node, `takeR` reads that node's row. -/
module

public import proofs.«01_k».proof.Proof.RefRow

@[expose] public section

noncomputable section

namespace Cert.Stgcn

open Cert.ReferenceIdeal Cert.ReferenceIdeal.Gen Idealize.ShloMosaic Idealize.ShloMosaic.TcCoe Idealize.ShloMosaic.StableHlo

theorem idsR_at (x : FVec Ideal S512x2416 .f32) (i : Fin 512) :
    idsR x (ix3 i 0 0) = Ideal.fptosi 32 (x (ix2 i ⟨2415, by decide⟩)) := by
  pointwise [idsR, tail16]
  rfl

theorem wrapR_at (v : IVec S512x1x1 32) (i : Fin 512) (n : Fin 200) (h : v (ix3 i 0 0) = BitVec.ofNat 32 n.val) :
    wrapR v (ix3 i 0 0) = BitVec.ofNat 32 n.val := by
  pointwise [wrapR]
  rw [h]
  clear h
  revert n
  decide

theorem inRangeR_at (v : IVec S512x1x1 32) (i : Fin 512) (n : Fin 200) (h : v (ix3 i 0 0) = BitVec.ofNat 32 n.val) :
    inRangeR v (ix2 i 0) = 1#1 := by
  have key : ∀ n : Fin 200, IntOp.andi (IntOp.cmpi .sge (BitVec.ofNat 32 n.val) 0#32) (IntOp.cmpi .sle (BitVec.ofNat 32 n.val) 199#32) = 1#1 := by
    decide
  pointwise [inRangeR]
  rw [Finset.univ_unique, Finset.fold_singleton]
  change IntOp.andi (IntOp.andi (IntOp.cmpi .sge (v (ix3 i 0 0)) 0#32) (IntOp.cmpi .sle (v (ix3 i 0 0)) 199#32)) 1#1 = 1#1
  rw [h, key]
  rfl

theorem gather_at {α : Type} (x : S512x200x512.Idx → α) (v : IVec S512x1x1 32) (i k : Fin 512) (n : Fin 200)
    (h : v (ix3 i 0 0) = BitVec.ofNat 32 n.val) :
    Host.gather gather_S512x200x512_S512x1x1_S512x1x512_2_1_0_0_1_2_11512 x v (ix3 i 0 k) = x (ix3 i n k) := by
  unfold Host.gather
  congr 1
  have e : (BitVec.ofNat 32 n.val).toInt.toNat = n.val := by
    clear h
    revert n
    decide
  have hn := n.isLt
  funext a
  apply Fin.ext
  fin_cases a
  · change 0 + i.val + 0 = i.val
    omega
  · have hs : GatherDims.start gather_S512x200x512_S512x1x1_S512x1x512_2_1_0_0_1_2_11512 (ix3 i 0 k) v 1 = min (v (ix3 i 0 0)).toInt.toNat 199 := by
      unfold GatherDims.start
      rw [dif_pos (by decide)]
      change min (v _).toInt.toNat 199 = _
      congr 4
      funext b
      apply Fin.ext
      fin_cases b <;> rfl
    change GatherDims.start _ _ _ 1 + 0 + 0 = n.val
    rw [hs, h, e]
    omega
  · change 0 + 0 + k.val = k.val
    omega

theorem takeR_at (x : FVec Ideal S512x200x512 .f32) (v : IVec S512x1x1 32) (i k : Fin 512) (n : Fin 200)
    (h : v (ix3 i 0 0) = BitVec.ofNat 32 n.val) : takeR x v (ix2 i k) = x (ix3 i n k) := by
  pointwise [takeR]
  have hw := wrapR_at v i n h
  rw [inRangeR_at _ i n hw, gather_at x _ i k n hw]
  rfl

end Cert.Stgcn
end
-- ==== Proof.RefLoop.lean ====
/- The reference's loop over the time steps, read at one row: it carries the three layers' states. -/
module

public import proofs.«01_k».proof.Proof.RefRow
public import proofs.«01_k».proof.Proof.RefSteps
public import Idealize.ShloMosaic.Lib.DynamicIndex

@[expose] public section

noncomputable section

namespace Cert.Stgcn

open Cert.ReferenceIdeal Cert.ReferenceIdeal.Gen Cert.ReferenceIdeal.Value Idealize.ShloMosaic Idealize.ShloMosaic.TcCoe Idealize.ShloMosaic.StableHlo

/-! ### One trip as a composition of the layer steps -/

section Trip

variable {F : FTy → Type} [FloatOps F]

/-- The inputs of one time step: the block of the sequence the counter names. -/
def stepX (s : FVec F S12x102400x64 .f32) (t : IVec S_ 32) : FVec F S102400x64 .f32 :=
  shapeCast S102400x64
    (Host.dynamicSlice S1x102400x64 s
      (fun k => (((![t, constantI S_ 32 0#32, constantI S_ 32 0#32] : Fin 3 → IVec S_ 32) k (Shape.Idx.first h_S_)).toInt))
      sliceFits_S12x102400x64_S1x102400x64)
    shapeCasts_S1x102400x64_S102400x64

/-- The gates of the first layer, of the contents before a trip. -/
def z0 (V : Valuation τ sig (Elt F)) : FVec F S102400x256 .f32 :=
  zR (stepX (V (Proc.devRef .tc main_v11_0)) (V (Proc.devRef .tc main_v11_4))) (V (Proc.devRef .tc main_v11_5))
    (extractStridedSlice S1x64x256 ![0, 0, 0] (V (Proc.devRef .tc main_v11_1)) slices_S3x64x256_S1x64x256_0_0_0)
    (extractStridedSlice S1x64x256 ![0, 0, 0] (V (Proc.devRef .tc main_v11_2)) slices_S3x64x256_S1x64x256_0_0_0)
    (extractStridedSlice S1x256 ![0, 0] (V (Proc.devRef .tc main_v11_3)) slices_S3x256_S1x256_0_0)

/-- The first layer's new hidden state. -/
def hid0 (V : Valuation τ sig (Elt F)) : FVec F S102400x64 .f32 := hR (z0 V) (cR (z0 V) (V (Proc.devRef .tc main_v11_6)))

/-- The gates of the second layer. -/
def z1 (V : Valuation τ sig (Elt F)) : FVec F S102400x256 .f32 :=
  zR (hid0 V) (V (Proc.devRef .tc main_v11_7))
    (extractStridedSlice S1x64x256 ![1, 0, 0] (V (Proc.devRef .tc main_v11_1)) slices_S3x64x256_S1x64x256_1_0_0)
    (extractStridedSlice S1x64x256 ![1, 0, 0] (V (Proc.devRef .tc main_v11_2)) slices_S3x64x256_S1x64x256_1_0_0)
    (extractStridedSlice S1x256 ![1, 0] (V (Proc.devRef .tc main_v11_3)) slices_S3x256_S1x256_1_0)

/-- The second layer's new hidden state. -/
def hid1 (V : Valuation τ sig (Elt F)) : FVec F S102400x64 .f32 := hR (z1 V) (cR (z1 V) (V (Proc.devRef .tc main_v11_8)))

/-- The gates of the third layer. -/
def z2 (V : Valuation τ sig (Elt F)) : FVec F S102400x256 .f32 :=
  zR (hid1 V) (V (Proc.devRef .tc main_v11_9))
    (extractStridedSlice S1x64x256 ![2, 0, 0] (V (Proc.devRef .tc main_v11_1)) slices_S3x64x256_S1x64x256_2_0_0)
    (extractStridedSlice S1x64x256 ![2, 0, 0] (V (Proc.devRef .tc main_v11_2)) slices_S3x64x256_S1x64x256_2_0_0)
    (extractStridedSlice S1x256 ![2, 0] (V (Proc.devRef .tc main_v11_3)) slices_S3x256_S1x256_2_0)

/-- The third layer's new hidden state. -/
def hid2 (V : Valuation τ sig (Elt F)) : FVec F S102400x64 .f32 := hR (z2 V) (cR (z2 V) (V (Proc.devRef .tc main_v11_10)))

theorem z0_eq (V : Valuation τ sig (Elt F)) : res_main_while0b_v109 V = z0 V := rfl

theorem step5_eq (V : Valuation τ sig (Elt F)) : step_main_v11_5 V = hid0 V := rfl

theorem step6_eq (V : Valuation τ sig (Elt F)) : step_main_v11_6 V = cR (z0 V) (V (Proc.devRef .tc main_v11_6)) := rfl

theorem z1_eq (V : Valuation τ sig (Elt F)) : res_main_while0b_v149 V = z1 V := rfl

theorem step7_eq (V : Valuation τ sig (Elt F)) : step_main_v11_7 V = hid1 V := rfl

theorem step8_eq (V : Valuation τ sig (Elt F)) : step_main_v11_8 V = cR (z1 V) (V (Proc.devRef .tc main_v11_8)) := rfl

theorem step9_eq (V : Valuation τ sig (Elt F)) : step_main_v11_9 V = hid2 V := rfl

theorem step10_eq (V : Valuation τ sig (Elt F)) : step_main_v11_10 V = cR (z2 V) (V (Proc.devRef .tc main_v11_10)) := rfl

end Trip

/-! ### One trip at one row -/

/-- The time step's inputs at a row, at a counter in range. -/
theorem stepX_at (s : FVec Ideal S12x102400x64 .f32) (t : Fin 12) (r : Fin 102400) (k : Fin 64) :
    stepX s (fun _ => (Scf.iv 0#32 1#32 t.val : BitVec 32)) (ix2 r k) = s (ix3 t r k) := by
  have e : (Scf.iv 0#32 1#32 t.val : BitVec 32).toInt = (t.val : Int) := by revert t; decide
  have ht := t.isLt
  rw [stepX, Host.dynamicSlice_eq_extractStridedSlice S1x102400x64 s _ ![t.val, 0, 0] _ ⟨rfl, fun a => ?_⟩ (fun a => ?_)]
  · pointwise
  · fin_cases a <;> simp <;> omega
  · fin_cases a
    · exact e
    · rfl
    · rfl

/-- A layer's step at a row, from its inputs and its state before. -/
theorem layer_at (x h c : FVec Ideal S102400x64 .f32) (wx wh : FVec Ideal S1x64x256 .f32) (b : FVec Ideal S1x256 .f32) (r : Fin 102400)
    (W H : Fin 64 → Fin 256 → EReal) (B : Fin 256 → EReal) (inp : ℕ → Fin 64 → EReal) (t : ℕ)
    (hW : ∀ k j, wx (ix3 0 k j) = W k j) (hH : ∀ k j, wh (ix3 0 k j) = H k j) (hB : ∀ j, b (ix2 0 j) = B j)
    (hx : ∀ k, x (ix2 r k) = inp t k) (hh : ∀ k, h (ix2 r k) = ((layerM W H B inp t).2 k : EReal))
    (hc : ∀ k, c (ix2 r k) = ((layerM W H B inp t).1 k : EReal)) :
    (∀ k, cR (zR x h wx wh b) c (ix2 r k) = ((layerM W H B inp (t + 1)).1 k : EReal))
      ∧ ∀ k, hR (zR x h wx wh b) (cR (zR x h wx wh b) c) (ix2 r k) = ((layerM W H B inp (t + 1)).2 k : EReal) := by
  have hz : ∀ j, zR x h wx wh b (ix2 r j) = gatesM W H B (inp t) (layerM W H B inp t).2 j := fun j => by
    rw [zR_at x h wx wh b r (inp t) _ hx hh]
    simp only [hW, hH, hB]
  have hc' := cR_at _ c r _ _ hz hc
  exact ⟨hc', hR_at _ _ r _ _ hz hc'⟩

/-- The rows of the loop's sequence, weights and biases as the model takes them. -/
def seqOf (V : Valuation τ sig (Elt Ideal)) (r : Fin 102400) (t : ℕ) (k : Fin 64) : EReal :=
  (V (Proc.devRef .tc main_v11_0) : FVec Ideal S12x102400x64 .f32) (ix3 (Fin.ofNat 12 t) r k)

/-- The input weights of layer `l`. -/
def wxOf (V : Valuation τ sig (Elt Ideal)) (l : ℕ) (k : Fin 64) (j : Fin 256) : EReal :=
  (V (Proc.devRef .tc main_v11_1) : FVec Ideal S3x64x256 .f32) (ix3 (Fin.ofNat 3 l) k j)

/-- The recurrent weights of layer `l`. -/
def whOf (V : Valuation τ sig (Elt Ideal)) (l : ℕ) (k : Fin 64) (j : Fin 256) : EReal :=
  (V (Proc.devRef .tc main_v11_2) : FVec Ideal S3x64x256 .f32) (ix3 (Fin.ofNat 3 l) k j)

/-- The biases of layer `l`. -/
def bOf (V : Valuation τ sig (Elt Ideal)) (l : ℕ) (j : Fin 256) : EReal :=
  (V (Proc.devRef .tc main_v11_3) : FVec Ideal S3x256 .f32) (ix2 (Fin.ofNat 3 l) j)

/-- Row `r` of the two buffers is a layer's hidden and cell state. -/
def Holds (h c : FVec Ideal S102400x64 .f32) (r : Fin 102400) (s : (Fin 64 → ℝ) × (Fin 64 → ℝ)) : Prop :=
  (∀ k, h (ix2 r k) = (s.2 k : EReal)) ∧ ∀ k, c (ix2 r k) = (s.1 k : EReal)

/-- What is carried from `E` after `t` trips: the constants, the counter, and every row's three states. -/
structure Carried (E V : Valuation τ sig (Elt Ideal)) (t : ℕ) : Prop where
  seq : V (Proc.devRef .tc main_v11_0) = E (Proc.devRef .tc main_v11_0)
  wx : V (Proc.devRef .tc main_v11_1) = E (Proc.devRef .tc main_v11_1)
  wh : V (Proc.devRef .tc main_v11_2) = E (Proc.devRef .tc main_v11_2)
  b : V (Proc.devRef .tc main_v11_3) = E (Proc.devRef .tc main_v11_3)
  ctr : V (Proc.devRef .tc main_v11_4) = fun _ => Scf.iv 0#32 1#32 t
  l0 : ∀ r, Holds (V (Proc.devRef .tc main_v11_5)) (V (Proc.devRef .tc main_v11_6)) r
    (stackM (wxOf E) (whOf E) (bOf E) (seqOf E r) 0 t)
  l1 : ∀ r, Holds (V (Proc.devRef .tc main_v11_7)) (V (Proc.devRef .tc main_v11_8)) r
    (stackM (wxOf E) (whOf E) (bOf E) (seqOf E r) 1 t)
  l2 : ∀ r, Holds (V (Proc.devRef .tc main_v11_9)) (V (Proc.devRef .tc main_v11_10)) r
    (stackM (wxOf E) (whOf E) (bOf E) (seqOf E r) 2 t)

/-- The three layers of one trip at a row. -/
theorem Carried.layers {E V : Valuation τ sig (Elt Ideal)} {t : ℕ} (ht : t < 12) (H : Carried E V t) (r : Fin 102400) :
    Holds (hid0 V) (cR (z0 V) (V (Proc.devRef .tc main_v11_6))) r (stackM (wxOf E) (whOf E) (bOf E) (seqOf E r) 0 (t + 1))
      ∧ Holds (hid1 V) (cR (z1 V) (V (Proc.devRef .tc main_v11_8))) r (stackM (wxOf E) (whOf E) (bOf E) (seqOf E r) 1 (t + 1))
      ∧ Holds (hid2 V) (cR (z2 V) (V (Proc.devRef .tc main_v11_10))) r (stackM (wxOf E) (whOf E) (bOf E) (seqOf E r) 2 (t + 1)) := by
  have a0 := layer_at (stepX (V (Proc.devRef .tc main_v11_0)) (V (Proc.devRef .tc main_v11_4))) (V (Proc.devRef .tc main_v11_5))
    (V (Proc.devRef .tc main_v11_6))
    (extractStridedSlice S1x64x256 ![0, 0, 0] (V (Proc.devRef .tc main_v11_1)) slices_S3x64x256_S1x64x256_0_0_0)
    (extractStridedSlice S1x64x256 ![0, 0, 0] (V (Proc.devRef .tc main_v11_2)) slices_S3x64x256_S1x64x256_0_0_0)
    (extractStridedSlice S1x256 ![0, 0] (V (Proc.devRef .tc main_v11_3)) slices_S3x256_S1x256_0_0) r
    (wxOf E 0) (whOf E 0) (bOf E 0) (seqOf E r) t
    (fun k j => by rw [H.wx]; pointwise; rfl) (fun k j => by rw [H.wh]; pointwise; rfl) (fun j => by rw [H.b]; pointwise; rfl)
    (fun k => by
      rw [H.seq, H.ctr]
      refine (stepX_at (E (Proc.devRef .tc main_v11_0)) ⟨t, ht⟩ r k).trans ?_
      rw [seqOf]
      congr 2
      exact Fin.ext (Nat.mod_eq_of_lt ht).symm)
    (H.l0 r).1 (H.l0 r).2
  have a1 := layer_at (hid0 V) (V (Proc.devRef .tc main_v11_7)) (V (Proc.devRef .tc main_v11_8))
    (extractStridedSlice S1x64x256 ![1, 0, 0] (V (Proc.devRef .tc main_v11_1)) slices_S3x64x256_S1x64x256_1_0_0)
    (extractStridedSlice S1x64x256 ![1, 0, 0] (V (Proc.devRef .tc main_v11_2)) slices_S3x64x256_S1x64x256_1_0_0)
    (extractStridedSlice S1x256 ![1, 0] (V (Proc.devRef .tc main_v11_3)) slices_S3x256_S1x256_1_0) r
    (wxOf E 1) (whOf E 1) (bOf E 1) (feedM (stackM (wxOf E) (whOf E) (bOf E) (seqOf E r) 0)) t
    (fun k j => by rw [H.wx]; pointwise; rfl) (fun k j => by rw [H.wh]; pointwise; rfl) (fun j => by rw [H.b]; pointwise; rfl)
    a0.2 (H.l1 r).1 (H.l1 r).2
  have a2 := layer_at (hid1 V) (V (Proc.devRef .tc main_v11_9)) (V (Proc.devRef .tc main_v11_10))
    (extractStridedSlice S1x64x256 ![2, 0, 0] (V (Proc.devRef .tc main_v11_1)) slices_S3x64x256_S1x64x256_2_0_0)
    (extractStridedSlice S1x64x256 ![2, 0, 0] (V (Proc.devRef .tc main_v11_2)) slices_S3x64x256_S1x64x256_2_0_0)
    (extractStridedSlice S1x256 ![2, 0] (V (Proc.devRef .tc main_v11_3)) slices_S3x256_S1x256_2_0) r
    (wxOf E 2) (whOf E 2) (bOf E 2) (feedM (stackM (wxOf E) (whOf E) (bOf E) (seqOf E r) 1)) t
    (fun k j => by rw [H.wx]; pointwise; rfl) (fun k j => by rw [H.wh]; pointwise; rfl) (fun j => by rw [H.b]; pointwise; rfl)
    a1.2 (H.l2 r).1 (H.l2 r).2
  exact ⟨⟨a0.2, a0.1⟩, ⟨a1.2, a1.1⟩, ⟨a2.2, a2.1⟩⟩

/-- One trip carries the invariant on. -/
theorem Carried.step {E V : Valuation τ sig (Elt Ideal)} {t : ℕ} (ht : t < 12) (H : Carried E V t) : Carried E (STEP V) (t + 1) where
  seq := (STEP_main_v11_0 V).trans H.seq
  wx := (STEP_main_v11_1 V).trans H.wx
  wh := (STEP_main_v11_2 V).trans H.wh
  b := (STEP_main_v11_3 V).trans H.b
  ctr := by
    rw [STEP_main_v11_4, step_main_v11_4, H.ctr, Scf.iv_succ]
    rfl
  l0 r := by rw [STEP_main_v11_5, STEP_main_v11_6, step5_eq, step6_eq]; exact (H.layers ht r).1
  l1 r := by rw [STEP_main_v11_7, STEP_main_v11_8, step7_eq, step8_eq]; exact (H.layers ht r).2.1
  l2 r := by rw [STEP_main_v11_9, STEP_main_v11_10, step9_eq, step10_eq]; exact (H.layers ht r).2.2

/-- After `t` trips from `E`, every row of the states is the model's after `t` steps. -/
theorem carried (E : Valuation τ sig (Elt Ideal)) (H : Carried E E 0) : ∀ t, t ≤ 12 → Carried E (STEP^[t] E) t
  | 0, _ => H
  | t + 1, ht => by
    rw [Function.iterate_succ_apply']
    exact (carried E H t (by omega)).step (by omega)

end Cert.Stgcn
-- ==== Proof.RefGraph.lean ====
/- The sequence the reference's loop runs over: the graph convolution of every sample at every node and time step. -/
module

public import proofs.«01_k».proof.Proof.RefRow
public import proofs.«01_k».proof.Proof.Net
public import proofs.«01_k».proof.Proof.RefSteps

@[expose] public section

noncomputable section

namespace Cert.Stgcn

open Cert.ReferenceIdeal Cert.ReferenceIdeal.Gen Cert.ReferenceIdeal.Value Idealize.ShloMosaic Idealize.ShloMosaic.TcCoe Idealize.ShloMosaic.StableHlo

section Terms

variable {F : FTy → Type} [FloatOps F]

/-- The signals by sample, time step and node. -/
def sigX (x : FVec F S512x2416 .f32) : FVec F S512x12x200x1 .f32 :=
  shapeCast S512x12x200x1 (extractStridedSlice S512x2400 ![0, 0] x slices_S512x2416_S512x2400_0_0) shapeCasts_S512x2400_S512x12x200x1

/-- Each graph matrix applied to the signals. -/
def chebX (x : FVec F S512x2416 .f32) (cheb : FVec F S2x200x200 .f32) : FVec F S512x12x1x2x200 .f32 :=
  Host.dotGeneral dot_S512x12x200x1_S2x200x200_S512x12x1x2x200_2_2_013_01_n_n none (sigX x) cheb

/-- The graph convolution before the rectifier. -/
def convX (x : FVec F S512x2416 .f32) (cheb : FVec F S2x200x200 .f32) (w : FVec F S2x1x64 .f32) (b : FVec F S64 .f32) :
    FVec F S512x12x200x64 .f32 :=
  addf (Host.dotGeneral dot_S512x12x1x2x200_S2x1x64_S512x12x200x64_23_10_014_2_n_n none (chebX x cheb) w)
    (broadcastInDim S512x12x200x64 ![0, 1, 2, 3] bcast_S1x1x1x64_S512x12x200x64_0_1_2_3
      (broadcastInDim S1x1x1x64 ![3] bcast_S64_S1x1x1x64_3 b))

/-- The loop's sequence: time first, then the nodes of every sample. -/
def seqX (x : FVec F S512x2416 .f32) (cheb : FVec F S2x200x200 .f32) (w : FVec F S2x1x64 .f32) (b : FVec F S64 .f32) :
    FVec F S12x102400x64 .f32 :=
  shapeCast S12x102400x64
    (transpose S12x512x200x64 [1, 0, 2, 3]
      (maximumf (convX x cheb w b) (broadcastInDim S512x12x200x64 ![] bcast_S_S512x12x200x64 (constant S_ .f32 0x00000000#32)))
      transposes_S512x12x200x64_S12x512x200x64_1_0_2_3)
    shapeCasts_S12x512x200x64_S12x102400x64

end Terms

theorem sigX_at (x : FVec Ideal S512x2416 .f32) (i : Fin 512) (t : Fin 12) (n : Fin 200) :
    sigX x (ix4 i t n 0) = x (ix2 i ⟨t.val * 200 + n.val, by omega⟩) := by
  pointwise [sigX]

theorem chebX_at (x : FVec Ideal S512x2416 .f32) (cheb : FVec Ideal S2x200x200 .f32) (i : Fin 512) (t : Fin 12) (f : Fin 1) (q : Fin 2) (n : Fin 200) :
    chebX x cheb (ix5 i t f q n) = ∑ m, sigX x (ix4 i t m f) * cheb (ix3 q n m) := by
  pointwise [chebX]

theorem convX_at (x : FVec Ideal S512x2416 .f32) (cheb : FVec Ideal S2x200x200 .f32) (w : FVec Ideal S2x1x64 .f32) (b : FVec Ideal S64 .f32)
    (i : Fin 512) (t : Fin 12) (n : Fin 200) (k : Fin 64) :
    convX x cheb w b (ix4 i t n k)
      = (∑ q : Fin 2, chebX x cheb (ix5 i t 0 q n) * w (ix3 q 0 k)) + b (ix1 k) := by
  pointwise [convX]
  rw [Fin.sum_univ_one]

theorem seqX_at (x : FVec Ideal S512x2416 .f32) (cheb : FVec Ideal S2x200x200 .f32) (w : FVec Ideal S2x1x64 .f32) (b : FVec Ideal S64 .f32)
    (i : Fin 512) (t : Fin 12) (n : Fin 200) (k : Fin 64) :
    seqX x cheb w b (ix3 t ⟨i.val * 200 + n.val, by omega⟩ k) = max (convX x cheb w b (ix4 i t n k)) 0 := by
  pointwise [seqX]

/-- With the identity as the first graph matrix the sequence is the model's graph convolution. -/
theorem seqX_graph (A : Args) (h : A.Drawn) (i : Fin 512) (t : Fin 12) (n : Fin 200) (k : Fin 64) :
    seqX A.x A.cheb A.wg A.bg (ix3 t ⟨i.val * 200 + n.val, by omega⟩ k) = A.inp n i t k := by
  rw [seqX_at, convX_at, Fin.sum_univ_two, chebX_at, chebX_at]
  simp only [sigX_at, h.eye]
  rw [Args.inp, graphM]
  congr 3
  · congr 1
    rw [Finset.sum_eq_single n]
    · rw [if_pos rfl, mul_one]
      rfl
    · intro m _ hm
      rw [if_neg (Ne.symm hm), mul_zero]
    · simp
  · congr 1
    exact Finset.sum_congr rfl fun m _ => mul_comm _ _

end Cert.Stgcn
-- ==== Proof.RefValue.lean ====
/- The reference's output at a sample: the network's. -/
module

public import proofs.«01_k».proof.Proof.RefTake
public import proofs.«01_k».proof.Proof.RefLoop
public import proofs.«01_k».proof.Proof.RefGraph

@[expose] public section

noncomputable section

namespace Cert.Stgcn

open Cert.ReferenceIdeal Cert.ReferenceIdeal.Gen Cert.ReferenceIdeal.Value Idealize.ShloMosaic Idealize.ShloMosaic.TcCoe Idealize.ShloMosaic.StableHlo

/-- The operations after the loop at a sample, from the last hidden states' rows at the samples' nodes. -/
theorem rOut_at (A : Args) (hA : A.Drawn) (h : FVec Ideal S102400x64 .f32)
    (hh : ∀ (i : Fin 512) (p : Fin 64), h (ix2 ⟨i.val * 200 + (A.node i).val, by omega⟩ p) = (A.last i p : EReal)) (i : Fin 512) :
    rOut A.x h A.wo A.bo A.w0 A.b0 A.g0 A.be0 A.g1 A.be1 A.w1 A.b1 (ix2 i 0) = A.net i := by
  have ha : ∀ i k, leakyR (bn512 A.g0 A.be0 (staticR A.x A.w0 A.b0)) (ix2 i k)
      = staticM (fun i p => A.x (ix2 i (featCol p))) (fun p k => A.w0 (ix2 p k)) (fun k => A.b0 (ix1 k)) (fun k => A.g0 (ix1 k))
          (fun k => A.be0 (ix1 k)) i k := fun i k => by
    rw [leakyR_at, bn512_at, staticM]
    simp only [staticR_at]
    rfl
  have hf : ∀ i k, takeR (nodesR h A.wo A.bo) (idsR A.x) (ix2 i k) = featM (A.last i) (fun p => A.wo (ix2 p k)) (A.bo (ix1 k)) := fun i k => by
    rw [takeR_at _ _ i k _ ((idsR_at A.x i).trans (hA.node i)), nodesR_at h A.wo A.bo i _ k (A.last i) (hh i)]
  rw [rOut, headR_at]
  simp only [bn1024_at, join_lo, join_hi, ha, hf]
  rfl

/-! ### What the loop starts from -/

section Entry

variable (m : (ℓ : Loc nD τ sig) → Buf (Elt Ideal) ℓ) (c : Dev nD)

/-- The states before the first step. -/
def zeros : FVec Ideal S102400x64 .f32 := broadcastInDim S102400x64 ![] bcast_S_S102400x64 (constant S_ .f32 0x00000000#32)

theorem zeros_at (r : Fin 102400) (k : Fin 64) : zeros (ix2 r k) = ((0 : ℝ) : EReal) := by
  pointwise [zeros]
  rfl

/-- The arguments of the reference. -/
def refArgs : Args where
  x := m ((c.tc : Thread nD τ).loc main_arg0)
  cheb := m ((c.tc : Thread nD τ).loc main_arg1)
  wg := m ((c.tc : Thread nD τ).loc main_arg2)
  bg := m ((c.tc : Thread nD τ).loc main_arg3)
  wx := m ((c.tc : Thread nD τ).loc main_arg4)
  wh := m ((c.tc : Thread nD τ).loc main_arg5)
  bl := m ((c.tc : Thread nD τ).loc main_arg6)
  wo := m ((c.tc : Thread nD τ).loc main_arg7)
  bo := m ((c.tc : Thread nD τ).loc main_arg8)
  w0 := m ((c.tc : Thread nD τ).loc main_arg9)
  b0 := m ((c.tc : Thread nD τ).loc main_arg10)
  g0 := m ((c.tc : Thread nD τ).loc main_arg11)
  be0 := m ((c.tc : Thread nD τ).loc main_arg12)
  g1 := m ((c.tc : Thread nD τ).loc main_arg13)
  be1 := m ((c.tc : Thread nD τ).loc main_arg14)
  w1 := m ((c.tc : Thread nD τ).loc main_arg15)
  b1 := m ((c.tc : Thread nD τ).loc main_arg16)

set_option maxRecDepth 8192 in
/-- The loop's sequence is the graph convolution. -/
theorem entry_0 : entryContents preI m c (Proc.devRef .tc main_v11_0)
    = seqX (F := Ideal) (refArgs m c).x (refArgs m c).cheb (refArgs m c).wg (refArgs m c).bg := by
  simp only [entryContents, afterL_cons, afterL_nil]
  after_reads_simp
  rfl

theorem entry_1 : entryContents preI m c (Proc.devRef .tc main_v11_1) = m ((c.tc : Thread nD τ).loc main_arg4) := by
  simp only [entryContents, afterL_cons, afterL_nil]
  after_reads_simp
  rfl

theorem entry_2 : entryContents preI m c (Proc.devRef .tc main_v11_2) = m ((c.tc : Thread nD τ).loc main_arg5) := by
  simp only [entryContents, afterL_cons, afterL_nil]
  after_reads_simp
  rfl

theorem entry_3 : entryContents preI m c (Proc.devRef .tc main_v11_3) = m ((c.tc : Thread nD τ).loc main_arg6) := by
  simp only [entryContents, afterL_cons, afterL_nil]
  after_reads_simp
  rfl

theorem entry_5 : entryContents preI m c (Proc.devRef .tc main_v11_5) = zeros := by
  simp only [entryContents, afterL_cons, afterL_nil]
  after_reads_simp
  rfl

theorem entry_6 : entryContents preI m c (Proc.devRef .tc main_v11_6) = zeros := by
  simp only [entryContents, afterL_cons, afterL_nil]
  after_reads_simp
  rfl

theorem entry_7 : entryContents preI m c (Proc.devRef .tc main_v11_7) = zeros := by
  simp only [entryContents, afterL_cons, afterL_nil]
  after_reads_simp
  rfl

theorem entry_8 : entryContents preI m c (Proc.devRef .tc main_v11_8) = zeros := by
  simp only [entryContents, afterL_cons, afterL_nil]
  after_reads_simp
  rfl

theorem entry_9 : entryContents preI m c (Proc.devRef .tc main_v11_9) = zeros := by
  simp only [entryContents, afterL_cons, afterL_nil]
  after_reads_simp
  rfl

theorem entry_10 : entryContents preI m c (Proc.devRef .tc main_v11_10) = zeros := by
  simp only [entryContents, afterL_cons, afterL_nil]
  after_reads_simp
  rfl

/-- The invariant holds where the loop starts. -/
theorem carried_zero : Carried (entryContents preI m c) (entryContents preI m c) 0 where
  seq := rfl
  wx := rfl
  wh := rfl
  b := rfl
  ctr := (ctr_entry m c).trans (by rw [Scf.iv_zero])
  l0 r := by rw [entry_5, entry_6]; exact ⟨zeros_at r, zeros_at r⟩
  l1 r := by rw [entry_7, entry_8]; exact ⟨zeros_at r, zeros_at r⟩
  l2 r := by rw [entry_9, entry_10]; exact ⟨zeros_at r, zeros_at r⟩

/-- The rows of the last hidden states at the samples' nodes. -/
theorem last_at (hA : (refArgs m c).Drawn) (i : Fin 512) (p : Fin 64) :
    (STEP^[12] (entryContents preI m c) (Proc.devRef .tc main_v11_9) : FVec Ideal S102400x64 .f32)
        (ix2 ⟨i.val * 200 + ((refArgs m c).node i).val, by omega⟩ p)
      = ((refArgs m c).last i p : EReal) := by
  rw [((carried _ (carried_zero m c) 12 le_rfl).l2 _).1 p, Args.last]
  have hx : wxOf (entryContents preI m c) = fun l k j => (refArgs m c).wx (ix3 (Fin.ofNat 3 l) k j) := by
    funext l k j; rw [wxOf, entry_1]; rfl
  have hw : whOf (entryContents preI m c) = fun l k j => (refArgs m c).wh (ix3 (Fin.ofNat 3 l) k j) := by
    funext l k j; rw [whOf, entry_2]; rfl
  have hb : bOf (entryContents preI m c) = fun l j => (refArgs m c).bl (ix2 (Fin.ofNat 3 l) j) := by
    funext l j; rw [bOf, entry_3]; rfl
  have hs : seqOf (entryContents preI m c) ⟨i.val * 200 + ((refArgs m c).node i).val, by omega⟩
      = fun t => (refArgs m c).inp ((refArgs m c).node i) i (Fin.ofNat 12 t) := by
    funext t k; rw [seqOf, entry_0]; exact seqX_graph _ hA i _ _ k
  rw [hx, hw, hb, hs]

/-- The reference's output at a sample. -/
theorem reference_at (hA : (refArgs m c).Drawn) (i : Fin 512) :
    (out_main_v96 (STEP^[12] (entryContents preI m c)) : FVec Ideal S512x1 .f32) (ix2 i 0) = (refArgs m c).net i := by
  rw [out_eq_rOut, iter_main_arg0, iter_main_arg7, iter_main_arg8, iter_main_arg9, iter_main_arg10, iter_main_arg11, iter_main_arg12, iter_main_arg13, iter_main_arg14, iter_main_arg15, iter_main_arg16]
  exact rOut_at (refArgs m c) hA _ (last_at m c hA) i

end Entry

end Cert.Stgcn

end
-- ==== Proof.Pre.lean ====
/- What the precondition `drawn` says of the arguments. -/
module

public import proofs.«01_k».proof.Defs
public import proofs.«01_k».proof.Proof.Net
public import Idealize.ShloMosaic.Lib.WordArith

@[expose] public section

noncomputable section

namespace Cert.Stgcn

open Cert.Pre_drawn Idealize.ShloMosaic Idealize.ShloMosaic.TcCoe

/-- The side conditions of the precondition's operations. -/
theorem preFacts : Cert.Pre_drawn.Facts :=
  ⟨by decide, by decide, by decide, by decide, by decide, by decide, by decide, by decide, by decide, by decide, by decide⟩

attribute [local instance] preFacts

/-- The five tests of `drawn`, of a list of arguments. -/
def tests (A : Args) := Cert.Pre_drawn.fn (F := Ideal) A.x A.cheb A.wg A.bg A.wx A.wh A.bl A.wo A.bo A.w0 A.b0 A.g0 A.be0 A.g1 A.be1 A.w1 A.b1

/-- A one-bit word of a decision that is one. -/
theorem of_ofBool {p : Prop} [Decidable p] (h : BitVec.ofBool (decide p) = 1#1) : p := by
  by_contra hp
  rw [decide_eq_false hp] at h
  exact absurd h (by decide)

theorem lit_200 : Ideal.ofBits .f32 0x43480000#32 = ((200 : ℝ) : EReal) := by
  simp [Ideal.ofBits, Ideal.ieee]; norm_cast; norm_num

theorem lit_top : Ideal.ofBits .f32 0x7F800000#32 = ⊤ := by
  simp [Ideal.ofBits, Ideal.ieee]

/-- A value whose magnitude is below infinity is a real. -/
theorem isReal_of_abs (x : EReal) (h : (FloatOps.absf (F := Ideal) (φ := .f32) x : EReal) < Ideal.ofBits .f32 0x7F800000#32) : IsReal x := by
  rw [lit_top] at h
  change max x (-x) < ⊤ at h
  induction x with
  | bot => simp at h
  | coe r => exact ⟨r, rfl⟩
  | top => simp at h

theorem test_node (A : Args) (h : (tests A).1 = fun _ => 1#1) (i : Fin 512) :
    Ideal.fptosi 32 (A.x (ix2 i nodeCol)) = BitVec.ofNat 32 (A.node i).val := by
  have e := congrFun h (ix2 i 0)
  pointwise [tests, Cert.Pre_drawn.fn, Cert.Pre_drawn.fn_part1] at e
  rw [WordArith.andi_ofBool, lit_200, ← Bool.decide_and] at e
  have e := of_ofBool e
  exact fptosi_node e.1 e.2

theorem test_eye (A : Args) (h : (tests A).2.1 = fun _ => 1#1) (n q : Fin 200) : A.cheb (ix3 0 n q) = if n = q then 1 else 0 := by
  have e := congrFun h (ix2 n q)
  pointwise [tests, Cert.Pre_drawn.fn, Cert.Pre_drawn.fn_part1] at e
  rw [of_ofBool e]
  have k : ∀ n q : Fin 200, IntOp.cmpi .eq (BitVec.ofNat 32 n.val) (BitVec.ofNat 32 q.val) = BitVec.ofBool (decide (n = q)) := by
    decide +kernel
  rw [k]
  by_cases hq : n = q <;> simp [hq, Scalar.select]

theorem test_signal (A : Args) (h : (tests A).2.2.1 = fun _ => 1#1) (i : Fin 512) (j : Fin 2400) : IsReal (A.x (ix2 i ⟨j.val, by omega⟩)) := by
  have e := congrFun h (ix2 i j)
  pointwise [tests, Cert.Pre_drawn.fn, Cert.Pre_drawn.fn_part1] at e
  exact isReal_of_abs _ (of_ofBool e)

theorem test_graph (A : Args) (h : (tests A).2.2.2.1 = fun _ => 1#1) (n q : Fin 200) : IsReal (A.cheb (ix3 1 n q)) := by
  have e := congrFun h (ix3 0 n q)
  pointwise [tests, Cert.Pre_drawn.fn, Cert.Pre_drawn.fn_part1] at e
  exact isReal_of_abs _ (of_ofBool e)

theorem test_weight (A : Args) (h : (tests A).2.2.2.2 = fun _ => 1#1) (k : Fin 64) : IsReal (A.wg (ix3 1 0 k)) := by
  have e := congrFun h (ix3 0 0 k)
  pointwise [tests, Cert.Pre_drawn.fn, Cert.Pre_drawn.fn_part1] at e
  exact isReal_of_abs _ (of_ofBool e)

/-- Arguments that pass the five tests are as drawn. -/
theorem drawn_of_tests (A : Args)
    (h : (tests A).1 = (fun _ => 1#1) ∧ (tests A).2.1 = (fun _ => 1#1) ∧ (tests A).2.2.1 = (fun _ => 1#1)
      ∧ (tests A).2.2.2.1 = (fun _ => 1#1) ∧ (tests A).2.2.2.2 = fun _ => 1#1) : A.Drawn where
  node := test_node A h.1
  eye := test_eye A h.2.1
  signal i t n := test_signal A h.2.2.1 i ⟨t.val * 200 + n.val, by omega⟩
  graph := test_graph A h.2.2.2.1
  weight := test_weight A h.2.2.2.2

end Cert.Stgcn

end
-- ==== Proof.lean ====
/- The certificate's claims: the frames of the kernel and the reference, and that at the extended reals both compute the
   same output from the arguments `drawn` admits. The argument is in the modules under Proof/: the kernel's body as a
   composition of array functions (KernelSteps, KernelLoads, KernelOut), those functions at a row (KernelRow, KernelTail),
   the kernel's result (KernelSample, KernelValue), the reference's steps at a row (RefSteps, RefRow, RefTake), its loop
   (RefLoop), its graph convolution (RefGraph) and its output (RefValue); both are the network of Net. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelValue
public import proofs.«01_k».proof.Proof.RefValue
public import proofs.«01_k».proof.Proof.Pre
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.Stgcn

attribute [local instance] preFacts

/-- The reference runs, leaves its arguments as they were and declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- From equal arguments that `drawn` admits the two results are equal. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hA : (kernelArgs m c).Drawn) (e : refArgs m' c = kernelArgs m c) :
    (Cert.ReferenceIdeal.Value.out_main_v96 (Cert.ReferenceIdeal.Value.STEP^[12] (StableHlo.entryContents Cert.ReferenceIdeal.Value.preI m' c))
        : FVec Ideal ⟨2, ![512, 1]⟩ .f32)
      = (Cert.KernelIdeal.Gen.dats m 0 c).arrAt 18 Cert.KernelIdeal.cfg0.N := by
  refine funext fun j => ?_
  obtain ⟨i, z, rfl⟩ : ∃ (i : Fin 512) (z : Fin 1), j = ix2 i z := ⟨j 0, j 1, funext fun a => by fin_cases a <;> rfl⟩
  obtain rfl := Subsingleton.elim z 0
  exact (reference_at m' c (e ▸ hA) i).trans ((congrArg (fun A => Args.net A i) e).trans (kernel_at m c hA i).symm)

theorem algebraic : Cert.algebraic_KernelIdeal_ReferenceIdeal_pre_drawn := fun m g m' g' hpre heq =>
  have hA : ∀ c, (kernelArgs m c).Drawn := fun c => drawn_of_tests (kernelArgs m c) (hpre c)
  have e : ∀ c, refArgs m' c = kernelArgs m c := fun c => by
    obtain ⟨h0, h1, h2, h3, h4, h5, h6, h7, h8, h9, h10, h11, h12, h13, h14, h15, h16⟩ := heq c
    simp only [refArgs, kernelArgs, h0, h1, h2, h3, h4, h5, h6, h7, h8, h9, h10, h11, h12, h13, h14, h15, h16]
  ⟨fun c => (Cert.KernelIdeal.Gen.dats m 0 c).arrAt 18 Cert.KernelIdeal.cfg0.N,
    Cert.KernelIdeal.Value.run_blocks m g,
    (θ_run Cert.ReferenceIdeal.defs _ _).mono (fun _ h c => ⟨(h c).1.trans (results_eq m m' c (hA c) (e c)), (h c).2⟩)
      (Cert.ReferenceIdeal.Value.run (F := Ideal) m' g')⟩

theorem claim : Cert.Claim := ⟨Cert.Kernel.Gen.facts, Cert.KernelIdeal.Gen.facts, Cert.ReferenceIdeal.Gen.facts, preFacts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
